-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S6x64x1024 : Shape := ⟨3, ![6, 64, 1024]⟩
abbrev S64x1024 : Shape := ⟨2, ![64, 1024]⟩
abbrev S64 : Shape := ⟨1, ![64]⟩
abbrev S_ : Shape := ⟨0, ![]⟩
abbrev S64x512 : Shape := ⟨2, ![64, 512]⟩
abbrev S1 : Shape := ⟨1, ![1]⟩
abbrev S1x64x1024 : Shape := ⟨3, ![1, 64, 1024]⟩

abbrev nBuf : Space → Nat
  | .hbm => 3
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .bf16⟩
  | .local _ .vmem, ⟨0, _⟩ => ⟨S1024x512, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S1024x1024, .bf16⟩
  | .local _ .vmem, ⟨5, _⟩ => ⟨S6x64x1024, .bf16⟩
  | .local _ .vmem, ⟨6, _⟩ => ⟨S6x64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_98 : BitVec 32 := 1#32
  let v172 : BitVec 32 := Scalar.muli v48 c1_i32_98
  let v173 : BitVec 32 := Scalar.addi c0_i32_99 v172
  v173.toNat
def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_101 : BitVec 32 := 1#32
  let v174 : BitVec 32 := Scalar.muli v60 c1_i32_101
  let v175 : BitVec 32 := Scalar.addi c0_i32_102 v174
  v175.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_104 : BitVec 32 := 1#32
  let v176 : BitVec 32 := Scalar.muli v79 c1_i32_104
  let v177 : BitVec 32 := Scalar.addi c0_i32_105 v176
  v177.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_107 : BitVec 32 := 1#32
  let v178 : BitVec 32 := Scalar.muli v98 c1_i32_107
  let v179 : BitVec 32 := Scalar.addi c0_i32_108 v178
  v179.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_89 : BitVec 32 := 2#32
  let v157 : BitVec 32 := Scalar.addi v29 c2_i32_89
  let c4_i32_90 : BitVec 32 := 4#32
  let c0_i32_68 : BitVec 32 := 0#32
  let v110 : BitVec 1 := Scalar.cmpi .sgt v29 c0_i32_68
  let v111 : BitVec 32 := Scalar.extui v110
  let c0_i32_69 : BitVec 32 := 0#32
  let v112 : BitVec 1 := Scalar.cmpi .slt v29 c0_i32_69
  let v113 : BitVec 32 := Scalar.extui v112
  let v114 : BitVec 32 := Scalar.subi v111 v113
  let c2_i32_67 : BitVec 32 := 2#32
  let c0_i32_70 : BitVec 32 := 0#32
  let v115 : BitVec 1 := Scalar.cmpi .sgt c2_i32_67 c0_i32_70
  let v116 : BitVec 32 := Scalar.extui v115
  let c0_i32_71 : BitVec 32 := 0#32
  let v117 : BitVec 1 := Scalar.cmpi .slt c2_i32_67 c0_i32_71
  let v118 : BitVec 32 := Scalar.extui v117
  let v119 : BitVec 32 := Scalar.subi v116 v118
  let v120 : BitVec 1 := Scalar.cmpi .ne v114 v119
  let v121 : BitVec 32 := Scalar.remsi v29 c2_i32_67
  let c0_i32_72 : BitVec 32 := 0#32
  let v122 : BitVec 1 := Scalar.cmpi .ne v121 c0_i32_72
  let v123 : BitVec 1 := Scalar.andi v120 v122
  let v109 : BitVec 32 := Scalar.divsi v29 c2_i32_67
  let c1_i32_73 : BitVec 32 := 1#32
  let v124 : BitVec 32 := Scalar.subi v109 c1_i32_73
  let v125 : BitVec 32 := Scalar.select v123 v124 v109
  let v158 : BitVec 32 := Scalar.muli c4_i32_90 v125
  let v159 : BitVec 32 := Scalar.subi v157 v158
  let v160 : BitVec 32 := Scalar.addi v30 v159
  let c1_i32_110 : BitVec 32 := 1#32
  let v180 : BitVec 32 := Scalar.muli v160 c1_i32_110
  let v181 : BitVec 32 := Scalar.addi c0_i32_111 v180
  v181.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_142 : BitVec 32 := 128#32
  let v236 : BitVec 32 := Scalar.muli v29 c128_i32_142
  let v237 : Index := Scalar.indexCast v236
  let c0_143 : Index := 0#32
  ![v237.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_142 : BitVec 32 := 128#32
  let v236 : BitVec 32 := Scalar.muli v29 c128_i32_142
  let v244 : Index := Scalar.indexCast v236
  let c0_146 : Index := 0#32
  ![v244.toNat, 0]
def k0_off3 (d0 : Dev nD) (c2_i32_147 : BitVec 32) (c64_i32_155 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v248 : BitVec 32 := Scalar.addi v29 c2_i32_147
  let c4_i32_148 : BitVec 32 := 4#32
  let c0_i32_149 : BitVec 32 := 0#32
  let v249 : BitVec 1 := Scalar.cmpi .eq c4_i32_148 c0_i32_149
  let c1_i32_150 : BitVec 32 := 1#32
  let v250 : BitVec 32 := Scalar.select v249 c1_i32_150 c4_i32_148
  let v251 : BitVec 32 := Scalar.remsi v248 v250
  let c0_i32_152 : BitVec 32 := 0#32
  let v253 : BitVec 1 := Scalar.cmpi .slt v251 c0_i32_152
  let c0_i32_153 : BitVec 32 := 0#32
  let v254 : BitVec 1 := Scalar.cmpi .slt v250 c0_i32_153
  let v255 : BitVec 1 := Scalar.xori v253 v254
  let c0_i32_151 : BitVec 32 := 0#32
  let v252 : BitVec 1 := Scalar.cmpi .ne v251 c0_i32_151
  let v256 : BitVec 1 := Scalar.andi v255 v252
  let v257 : BitVec 32 := Scalar.addi v251 v250
  let v258 : BitVec 32 := Scalar.select v256 v257 v251
  let c128_i32_154 : BitVec 32 := 128#32
  let v259 : BitVec 32 := Scalar.muli v258 c128_i32_154
  let v260 : BitVec 32 := Scalar.addi v259 c64_i32_155
  let v261 : Index := Scalar.indexCast v260
  let c0_156 : Index := 0#32
  ![v261.toNat, 0]
def k0_off3_at (r : Fin 4) : BitVec 32 × BitVec 32 :=
  if r.val < 2 then
    if r.val < 1 then
      (2#32, 64#32)
    else
      (3#32, 0#32)
  else
    if r.val < 3 then
      (3#32, 64#32)
    else
      (1#32, 64#32)
def k0_off4 (d0 : Dev nD) (c2_i32_147 : BitVec 32) (c64_i32_155 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v248 : BitVec 32 := Scalar.addi v29 c2_i32_147
  let c4_i32_148 : BitVec 32 := 4#32
  let c0_i32_149 : BitVec 32 := 0#32
  let v249 : BitVec 1 := Scalar.cmpi .eq c4_i32_148 c0_i32_149
  let c1_i32_150 : BitVec 32 := 1#32
  let v250 : BitVec 32 := Scalar.select v249 c1_i32_150 c4_i32_148
  let v251 : BitVec 32 := Scalar.remsi v248 v250
  let c0_i32_152 : BitVec 32 := 0#32
  let v253 : BitVec 1 := Scalar.cmpi .slt v251 c0_i32_152
  let c0_i32_153 : BitVec 32 := 0#32
  let v254 : BitVec 1 := Scalar.cmpi .slt v250 c0_i32_153
  let v255 : BitVec 1 := Scalar.xori v253 v254
  let c0_i32_151 : BitVec 32 := 0#32
  let v252 : BitVec 1 := Scalar.cmpi .ne v251 c0_i32_151
  let v256 : BitVec 1 := Scalar.andi v255 v252
  let v257 : BitVec 32 := Scalar.addi v251 v250
  let v258 : BitVec 32 := Scalar.select v256 v257 v251
  let c128_i32_154 : BitVec 32 := 128#32
  let v259 : BitVec 32 := Scalar.muli v258 c128_i32_154
  let v260 : BitVec 32 := Scalar.addi v259 c64_i32_155
  let v268 : Index := Scalar.indexCast v260
  let c0_160 : Index := 0#32
  ![v268.toNat, 0]
def k0_off4_at (r : Fin 4) : BitVec 32 × BitVec 32 :=
  if r.val < 2 then
    if r.val < 1 then
      (2#32, 64#32)
    else
      (3#32, 0#32)
  else
    if r.val < 3 then
      (3#32, 64#32)
    else
      (1#32, 64#32)
def k0_off5 (d0 : Dev nD) : Fin 2 → Nat :=
  let c512_i32_162 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c128_i32_161 : BitVec 32 := 128#32
  let v272 : BitVec 32 := Scalar.muli v36 c128_i32_161
  let v273 : BitVec 32 := Scalar.addi c512_i32_162 v272
  let v274 : Index := Scalar.indexCast v273
  let c0_163 : Index := 0#32
  ![v274.toNat, 0]
def k0_off6 (d0 : Dev nD) : Fin 2 → Nat :=
  let c512_i32_162 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c128_i32_161 : BitVec 32 := 128#32
  let v272 : BitVec 32 := Scalar.muli v36 c128_i32_161
  let v273 : BitVec 32 := Scalar.addi c512_i32_162 v272
  let v281 : Index := Scalar.indexCast v273
  let c0_167 : Index := 0#32
  ![v281.toNat, 0]
def k0_off7 (d0 : Dev nD) (c2_i32_168 : BitVec 32) (c64_i32_177 : BitVec 32) : Fin 2 → Nat :=
  let c512_i32_176 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v285 : BitVec 32 := Scalar.addi v36 c2_i32_168
  let c4_i32_169 : BitVec 32 := 4#32
  let c0_i32_170 : BitVec 32 := 0#32
  let v286 : BitVec 1 := Scalar.cmpi .eq c4_i32_169 c0_i32_170
  let c1_i32_171 : BitVec 32 := 1#32
  let v287 : BitVec 32 := Scalar.select v286 c1_i32_171 c4_i32_169
  let v288 : BitVec 32 := Scalar.remsi v285 v287
  let c0_i32_173 : BitVec 32 := 0#32
  let v290 : BitVec 1 := Scalar.cmpi .slt v288 c0_i32_173
  let c0_i32_174 : BitVec 32 := 0#32
  let v291 : BitVec 1 := Scalar.cmpi .slt v287 c0_i32_174
  let v292 : BitVec 1 := Scalar.xori v290 v291
  let c0_i32_172 : BitVec 32 := 0#32
  let v289 : BitVec 1 := Scalar.cmpi .ne v288 c0_i32_172
  let v293 : BitVec 1 := Scalar.andi v292 v289
  let v294 : BitVec 32 := Scalar.addi v288 v287
  let v295 : BitVec 32 := Scalar.select v293 v294 v288
  let c128_i32_175 : BitVec 32 := 128#32
  let v296 : BitVec 32 := Scalar.muli v295 c128_i32_175
  let v297 : BitVec 32 := Scalar.addi c512_i32_176 v296
  let v298 : BitVec 32 := Scalar.addi v297 c64_i32_177
  let v299 : Index := Scalar.indexCast v298
  let c0_178 : Index := 0#32
  ![v299.toNat, 0]
def k0_off7_at (r : Fin 4) : BitVec 32 × BitVec 32 :=
  if r.val < 2 then
    if r.val < 1 then
      (2#32, 64#32)
    else
      (3#32, 0#32)
  else
    if r.val < 3 then
      (3#32, 64#32)
    else
      (1#32, 64#32)
def k0_off8 (d0 : Dev nD) (c2_i32_168 : BitVec 32) (c64_i32_177 : BitVec 32) : Fin 2 → Nat :=
  let c512_i32_176 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v285 : BitVec 32 := Scalar.addi v36 c2_i32_168
  let c4_i32_169 : BitVec 32 := 4#32
  let c0_i32_170 : BitVec 32 := 0#32
  let v286 : BitVec 1 := Scalar.cmpi .eq c4_i32_169 c0_i32_170
  let c1_i32_171 : BitVec 32 := 1#32
  let v287 : BitVec 32 := Scalar.select v286 c1_i32_171 c4_i32_169
  let v288 : BitVec 32 := Scalar.remsi v285 v287
  let c0_i32_173 : BitVec 32 := 0#32
  let v290 : BitVec 1 := Scalar.cmpi .slt v288 c0_i32_173
  let c0_i32_174 : BitVec 32 := 0#32
  let v291 : BitVec 1 := Scalar.cmpi .slt v287 c0_i32_174
  let v292 : BitVec 1 := Scalar.xori v290 v291
  let c0_i32_172 : BitVec 32 := 0#32
  let v289 : BitVec 1 := Scalar.cmpi .ne v288 c0_i32_172
  let v293 : BitVec 1 := Scalar.andi v292 v289
  let v294 : BitVec 32 := Scalar.addi v288 v287
  let v295 : BitVec 32 := Scalar.select v293 v294 v288
  let c128_i32_175 : BitVec 32 := 128#32
  let v296 : BitVec 32 := Scalar.muli v295 c128_i32_175
  let v297 : BitVec 32 := Scalar.addi c512_i32_176 v296
  let v298 : BitVec 32 := Scalar.addi v297 c64_i32_177
  let v306 : Index := Scalar.indexCast v298
  let c0_182 : Index := 0#32
  ![v306.toNat, 0]
def k0_off8_at (r : Fin 4) : BitVec 32 × BitVec 32 :=
  if r.val < 2 then
    if r.val < 1 then
      (2#32, 64#32)
    else
      (3#32, 0#32)
  else
    if r.val < 3 then
      (3#32, 64#32)
    else
      (1#32, 64#32)
def k0_off9 (d0 : Dev nD) (c4_i32_183 : BitVec 32) (c0_i32_184 : BitVec 32) : Fin 2 → Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v310 : BitVec 32 := Scalar.addi v29 c4_i32_183
  let v311 : BitVec 32 := Scalar.subi v310 c0_i32_184
  let c4_i32_185 : BitVec 32 := 4#32
  let c0_i32_186 : BitVec 32 := 0#32
  let v312 : BitVec 1 := Scalar.cmpi .eq c4_i32_185 c0_i32_186
  let c1_i32_187 : BitVec 32 := 1#32
  let v313 : BitVec 32 := Scalar.select v312 c1_i32_187 c4_i32_185
  let v314 : BitVec 32 := Scalar.remsi v311 v313
  let c0_i32_189 : BitVec 32 := 0#32
  let v316 : BitVec 1 := Scalar.cmpi .slt v314 c0_i32_189
  let c0_i32_190 : BitVec 32 := 0#32
  let v317 : BitVec 1 := Scalar.cmpi .slt v313 c0_i32_190
  let v318 : BitVec 1 := Scalar.xori v316 v317
  let c0_i32_188 : BitVec 32 := 0#32
  let v315 : BitVec 1 := Scalar.cmpi .ne v314 c0_i32_188
  let v319 : BitVec 1 := Scalar.andi v318 v315
  let v320 : BitVec 32 := Scalar.addi v314 v313
  let v321 : BitVec 32 := Scalar.select v319 v320 v314
  let c128_i32_199 : BitVec 32 := 128#32
  let v334 : BitVec 32 := Scalar.muli v321 c128_i32_199
  let v335 : BitVec 32 := Scalar.addi c0_i32_200 v334
  let c0_i32_211 : BitVec 32 := 0#32
  ![v335.toNat, 0]
def k0_dev6 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_207 : BitVec 32 := 1#32
  let v339 : BitVec 32 := Scalar.muli v48 c1_i32_207
  let v340 : BitVec 32 := Scalar.addi c0_i32_208 v339
  v340.toNat
def k0_off10 (d0 : Dev nD) (c2_i32_191 : BitVec 32) (c0_i32_192 : BitVec 32) : Fin 2 → Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v322 : BitVec 32 := Scalar.addi v29 c2_i32_191
  let v323 : BitVec 32 := Scalar.addi v322 c0_i32_192
  let c4_i32_193 : BitVec 32 := 4#32
  let c0_i32_194 : BitVec 32 := 0#32
  let v324 : BitVec 1 := Scalar.cmpi .eq c4_i32_193 c0_i32_194
  let c1_i32_195 : BitVec 32 := 1#32
  let v325 : BitVec 32 := Scalar.select v324 c1_i32_195 c4_i32_193
  let v326 : BitVec 32 := Scalar.remsi v323 v325
  let c0_i32_197 : BitVec 32 := 0#32
  let v328 : BitVec 1 := Scalar.cmpi .slt v326 c0_i32_197
  let c0_i32_198 : BitVec 32 := 0#32
  let v329 : BitVec 1 := Scalar.cmpi .slt v325 c0_i32_198
  let v330 : BitVec 1 := Scalar.xori v328 v329
  let c0_i32_196 : BitVec 32 := 0#32
  let v327 : BitVec 1 := Scalar.cmpi .ne v326 c0_i32_196
  let v331 : BitVec 1 := Scalar.andi v330 v327
  let v332 : BitVec 32 := Scalar.addi v326 v325
  let v333 : BitVec 32 := Scalar.select v331 v332 v326
  let c128_i32_201 : BitVec 32 := 128#32
  let v336 : BitVec 32 := Scalar.muli v333 c128_i32_201
  let v337 : BitVec 32 := Scalar.addi c0_i32_202 v336
  let c64_i32_203 : BitVec 32 := 64#32
  let v338 : BitVec 32 := Scalar.addi v337 c64_i32_203
  let c0_i32_219 : BitVec 32 := 0#32
  ![v338.toNat, 0]
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_215 : BitVec 32 := 1#32
  let v348 : BitVec 32 := Scalar.muli v60 c1_i32_215
  let v349 : BitVec 32 := Scalar.addi c0_i32_216 v348
  v349.toNat
def k0_off11 (d0 : Dev nD) (c4_i32_220 : BitVec 32) (c0_i32_221 : BitVec 32) : Fin 2 → Nat :=
  let c512_i32_237 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v357 : BitVec 32 := Scalar.addi v36 c4_i32_220
  let v358 : BitVec 32 := Scalar.subi v357 c0_i32_221
  let c4_i32_222 : BitVec 32 := 4#32
  let c0_i32_223 : BitVec 32 := 0#32
  let v359 : BitVec 1 := Scalar.cmpi .eq c4_i32_222 c0_i32_223
  let c1_i32_224 : BitVec 32 := 1#32
  let v360 : BitVec 32 := Scalar.select v359 c1_i32_224 c4_i32_222
  let v361 : BitVec 32 := Scalar.remsi v358 v360
  let c0_i32_226 : BitVec 32 := 0#32
  let v363 : BitVec 1 := Scalar.cmpi .slt v361 c0_i32_226
  let c0_i32_227 : BitVec 32 := 0#32
  let v364 : BitVec 1 := Scalar.cmpi .slt v360 c0_i32_227
  let v365 : BitVec 1 := Scalar.xori v363 v364
  let c0_i32_225 : BitVec 32 := 0#32
  let v362 : BitVec 1 := Scalar.cmpi .ne v361 c0_i32_225
  let v366 : BitVec 1 := Scalar.andi v365 v362
  let v367 : BitVec 32 := Scalar.addi v361 v360
  let v368 : BitVec 32 := Scalar.select v366 v367 v361
  let c128_i32_236 : BitVec 32 := 128#32
  let v381 : BitVec 32 := Scalar.muli v368 c128_i32_236
  let v382 : BitVec 32 := Scalar.addi c512_i32_237 v381
  let c0_i32_247 : BitVec 32 := 0#32
  ![v382.toNat, 0]
def k0_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_243 : BitVec 32 := 1#32
  let v386 : BitVec 32 := Scalar.muli v79 c1_i32_243
  let v387 : BitVec 32 := Scalar.addi c0_i32_244 v386
  v387.toNat
def k0_off12 (d0 : Dev nD) (c2_i32_228 : BitVec 32) (c0_i32_229 : BitVec 32) : Fin 2 → Nat :=
  let c512_i32_239 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v369 : BitVec 32 := Scalar.addi v36 c2_i32_228
  let v370 : BitVec 32 := Scalar.addi v369 c0_i32_229
  let c4_i32_230 : BitVec 32 := 4#32
  let c0_i32_231 : BitVec 32 := 0#32
  let v371 : BitVec 1 := Scalar.cmpi .eq c4_i32_230 c0_i32_231
  let c1_i32_232 : BitVec 32 := 1#32
  let v372 : BitVec 32 := Scalar.select v371 c1_i32_232 c4_i32_230
  let v373 : BitVec 32 := Scalar.remsi v370 v372
  let c0_i32_234 : BitVec 32 := 0#32
  let v375 : BitVec 1 := Scalar.cmpi .slt v373 c0_i32_234
  let c0_i32_235 : BitVec 32 := 0#32
  let v376 : BitVec 1 := Scalar.cmpi .slt v372 c0_i32_235
  let v377 : BitVec 1 := Scalar.xori v375 v376
  let c0_i32_233 : BitVec 32 := 0#32
  let v374 : BitVec 1 := Scalar.cmpi .ne v373 c0_i32_233
  let v378 : BitVec 1 := Scalar.andi v377 v374
  let v379 : BitVec 32 := Scalar.addi v373 v372
  let v380 : BitVec 32 := Scalar.select v378 v379 v373
  let c128_i32_238 : BitVec 32 := 128#32
  let v383 : BitVec 32 := Scalar.muli v380 c128_i32_238
  let v384 : BitVec 32 := Scalar.addi c512_i32_239 v383
  let c64_i32_240 : BitVec 32 := 64#32
  let v385 : BitVec 32 := Scalar.addi v384 c64_i32_240
  let c0_i32_254 : BitVec 32 := 0#32
  ![v385.toNat, 0]
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_250 : BitVec 32 := 1#32
  let v395 : BitVec 32 := Scalar.muli v98 c1_i32_250
  let v396 : BitVec 32 := Scalar.addi c0_i32_251 v395
  v396.toNat
def k0_off13 (d0 : Dev nD) (c2_i32_313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v502 : BitVec 32 := Scalar.addi v29 c2_i32_313
  let c4_i32_314 : BitVec 32 := 4#32
  let c0_i32_315 : BitVec 32 := 0#32
  let v503 : BitVec 1 := Scalar.cmpi .eq c4_i32_314 c0_i32_315
  let c1_i32_316 : BitVec 32 := 1#32
  let v504 : BitVec 32 := Scalar.select v503 c1_i32_316 c4_i32_314
  let v505 : BitVec 32 := Scalar.remsi v502 v504
  let c0_i32_318 : BitVec 32 := 0#32
  let v507 : BitVec 1 := Scalar.cmpi .slt v505 c0_i32_318
  let c0_i32_319 : BitVec 32 := 0#32
  let v508 : BitVec 1 := Scalar.cmpi .slt v504 c0_i32_319
  let v509 : BitVec 1 := Scalar.xori v507 v508
  let c0_i32_317 : BitVec 32 := 0#32
  let v506 : BitVec 1 := Scalar.cmpi .ne v505 c0_i32_317
  let v510 : BitVec 1 := Scalar.andi v509 v506
  let v511 : BitVec 32 := Scalar.addi v505 v504
  let v512 : BitVec 32 := Scalar.select v510 v511 v505
  let c128_i32_320 : BitVec 32 := 128#32
  let v513 : BitVec 32 := Scalar.muli v512 c128_i32_320
  let v514 : Index := Scalar.indexCast v513
  let c0_321 : Index := 0#32
  ![v514.toNat, 0]
def k0_off14 (d0 : Dev nD) (c2_i32_313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v502 : BitVec 32 := Scalar.addi v29 c2_i32_313
  let c4_i32_314 : BitVec 32 := 4#32
  let c0_i32_315 : BitVec 32 := 0#32
  let v503 : BitVec 1 := Scalar.cmpi .eq c4_i32_314 c0_i32_315
  let c1_i32_316 : BitVec 32 := 1#32
  let v504 : BitVec 32 := Scalar.select v503 c1_i32_316 c4_i32_314
  let v505 : BitVec 32 := Scalar.remsi v502 v504
  let c0_i32_318 : BitVec 32 := 0#32
  let v507 : BitVec 1 := Scalar.cmpi .slt v505 c0_i32_318
  let c0_i32_319 : BitVec 32 := 0#32
  let v508 : BitVec 1 := Scalar.cmpi .slt v504 c0_i32_319
  let v509 : BitVec 1 := Scalar.xori v507 v508
  let c0_i32_317 : BitVec 32 := 0#32
  let v506 : BitVec 1 := Scalar.cmpi .ne v505 c0_i32_317
  let v510 : BitVec 1 := Scalar.andi v509 v506
  let v511 : BitVec 32 := Scalar.addi v505 v504
  let v512 : BitVec 32 := Scalar.select v510 v511 v505
  let c128_i32_320 : BitVec 32 := 128#32
  let v513 : BitVec 32 := Scalar.muli v512 c128_i32_320
  let v521 : Index := Scalar.indexCast v513
  let c0_325 : Index := 0#32
  ![v521.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_326 : BitVec 32 := 128#32
  let v525 : BitVec 32 := Scalar.muli v29 c128_i32_326
  let c64_i32_327 : BitVec 32 := 64#32
  let v526 : BitVec 32 := Scalar.addi v525 c64_i32_327
  let v527 : Index := Scalar.indexCast v526
  let c0_328 : Index := 0#32
  ![v527.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_326 : BitVec 32 := 128#32
  let v525 : BitVec 32 := Scalar.muli v29 c128_i32_326
  let c64_i32_327 : BitVec 32 := 64#32
  let v526 : BitVec 32 := Scalar.addi v525 c64_i32_327
  let v534 : Index := Scalar.indexCast v526
  let c0_332 : Index := 0#32
  ![v534.toNat, 0]
def k0_off17 (d0 : Dev nD) (c2_i32_333 : BitVec 32) : Fin 2 → Nat :=
  let c512_i32_341 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v538 : BitVec 32 := Scalar.addi v36 c2_i32_333
  let c4_i32_334 : BitVec 32 := 4#32
  let c0_i32_335 : BitVec 32 := 0#32
  let v539 : BitVec 1 := Scalar.cmpi .eq c4_i32_334 c0_i32_335
  let c1_i32_336 : BitVec 32 := 1#32
  let v540 : BitVec 32 := Scalar.select v539 c1_i32_336 c4_i32_334
  let v541 : BitVec 32 := Scalar.remsi v538 v540
  let c0_i32_338 : BitVec 32 := 0#32
  let v543 : BitVec 1 := Scalar.cmpi .slt v541 c0_i32_338
  let c0_i32_339 : BitVec 32 := 0#32
  let v544 : BitVec 1 := Scalar.cmpi .slt v540 c0_i32_339
  let v545 : BitVec 1 := Scalar.xori v543 v544
  let c0_i32_337 : BitVec 32 := 0#32
  let v542 : BitVec 1 := Scalar.cmpi .ne v541 c0_i32_337
  let v546 : BitVec 1 := Scalar.andi v545 v542
  let v547 : BitVec 32 := Scalar.addi v541 v540
  let v548 : BitVec 32 := Scalar.select v546 v547 v541
  let c128_i32_340 : BitVec 32 := 128#32
  let v549 : BitVec 32 := Scalar.muli v548 c128_i32_340
  let v550 : BitVec 32 := Scalar.addi c512_i32_341 v549
  let v551 : Index := Scalar.indexCast v550
  let c0_342 : Index := 0#32
  ![v551.toNat, 0]
def k0_off18 (d0 : Dev nD) (c2_i32_333 : BitVec 32) : Fin 2 → Nat :=
  let c512_i32_341 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let v538 : BitVec 32 := Scalar.addi v36 c2_i32_333
  let c4_i32_334 : BitVec 32 := 4#32
  let c0_i32_335 : BitVec 32 := 0#32
  let v539 : BitVec 1 := Scalar.cmpi .eq c4_i32_334 c0_i32_335
  let c1_i32_336 : BitVec 32 := 1#32
  let v540 : BitVec 32 := Scalar.select v539 c1_i32_336 c4_i32_334
  let v541 : BitVec 32 := Scalar.remsi v538 v540
  let c0_i32_338 : BitVec 32 := 0#32
  let v543 : BitVec 1 := Scalar.cmpi .slt v541 c0_i32_338
  let c0_i32_339 : BitVec 32 := 0#32
  let v544 : BitVec 1 := Scalar.cmpi .slt v540 c0_i32_339
  let v545 : BitVec 1 := Scalar.xori v543 v544
  let c0_i32_337 : BitVec 32 := 0#32
  let v542 : BitVec 1 := Scalar.cmpi .ne v541 c0_i32_337
  let v546 : BitVec 1 := Scalar.andi v545 v542
  let v547 : BitVec 32 := Scalar.addi v541 v540
  let v548 : BitVec 32 := Scalar.select v546 v547 v541
  let c128_i32_340 : BitVec 32 := 128#32
  let v549 : BitVec 32 := Scalar.muli v548 c128_i32_340
  let v550 : BitVec 32 := Scalar.addi c512_i32_341 v549
  let v558 : Index := Scalar.indexCast v550
  let c0_346 : Index := 0#32
  ![v558.toNat, 0]
def k0_off19 (d0 : Dev nD) : Fin 2 → Nat :=
  let c512_i32_348 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c128_i32_347 : BitVec 32 := 128#32
  let v562 : BitVec 32 := Scalar.muli v36 c128_i32_347
  let v563 : BitVec 32 := Scalar.addi c512_i32_348 v562
  let c64_i32_349 : BitVec 32 := 64#32
  let v564 : BitVec 32 := Scalar.addi v563 c64_i32_349
  let v565 : Index := Scalar.indexCast v564
  let c0_350 : Index := 0#32
  ![v565.toNat, 0]
def k0_off20 (d0 : Dev nD) : Fin 2 → Nat :=
  let c512_i32_348 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c128_i32_347 : BitVec 32 := 128#32
  let v562 : BitVec 32 := Scalar.muli v36 c128_i32_347
  let v563 : BitVec 32 := Scalar.addi c512_i32_348 v562
  let c64_i32_349 : BitVec 32 := 64#32
  let v564 : BitVec 32 := Scalar.addi v563 c64_i32_349
  let v572 : Index := Scalar.indexCast v564
  let c0_354 : Index := 0#32
  ![v572.toNat, 0]
def k0_off21 (d0 : Dev nD) (c0_i32_412 : BitVec 32) : Fin 2 → Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_411 : BitVec 32 := 3#32
  let v672 : BitVec 32 := Scalar.addi v29 c3_i32_411
  let v673 : BitVec 32 := Scalar.subi v672 c0_i32_412
  let c4_i32_413 : BitVec 32 := 4#32
  let c0_i32_414 : BitVec 32 := 0#32
  let v674 : BitVec 1 := Scalar.cmpi .eq c4_i32_413 c0_i32_414
  let c1_i32_415 : BitVec 32 := 1#32
  let v675 : BitVec 32 := Scalar.select v674 c1_i32_415 c4_i32_413
  let v676 : BitVec 32 := Scalar.remsi v673 v675
  let c0_i32_417 : BitVec 32 := 0#32
  let v678 : BitVec 1 := Scalar.cmpi .slt v676 c0_i32_417
  let c0_i32_418 : BitVec 32 := 0#32
  let v679 : BitVec 1 := Scalar.cmpi .slt v675 c0_i32_418
  let v680 : BitVec 1 := Scalar.xori v678 v679
  let c0_i32_416 : BitVec 32 := 0#32
  let v677 : BitVec 1 := Scalar.cmpi .ne v676 c0_i32_416
  let v681 : BitVec 1 := Scalar.andi v680 v677
  let v682 : BitVec 32 := Scalar.addi v676 v675
  let v683 : BitVec 32 := Scalar.select v681 v682 v676
  let c128_i32_442 : BitVec 32 := 128#32
  let v708 : BitVec 32 := Scalar.muli v683 c128_i32_442
  let v709 : BitVec 32 := Scalar.addi c0_i32_443 v708
  let v710 : Index := Scalar.indexCast v709
  let c0_444 : Index := 0#32
  ![v710.toNat, 0]
def k0_off22 (d0 : Dev nD) (c0_i32_420 : BitVec 32) : Fin 2 → Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_419 : BitVec 32 := 3#32
  let v684 : BitVec 32 := Scalar.addi v29 c3_i32_419
  let v685 : BitVec 32 := Scalar.addi v684 c0_i32_420
  let c4_i32_421 : BitVec 32 := 4#32
  let c0_i32_422 : BitVec 32 := 0#32
  let v686 : BitVec 1 := Scalar.cmpi .eq c4_i32_421 c0_i32_422
  let c1_i32_423 : BitVec 32 := 1#32
  let v687 : BitVec 32 := Scalar.select v686 c1_i32_423 c4_i32_421
  let v688 : BitVec 32 := Scalar.remsi v685 v687
  let c0_i32_425 : BitVec 32 := 0#32
  let v690 : BitVec 1 := Scalar.cmpi .slt v688 c0_i32_425
  let c0_i32_426 : BitVec 32 := 0#32
  let v691 : BitVec 1 := Scalar.cmpi .slt v687 c0_i32_426
  let v692 : BitVec 1 := Scalar.xori v690 v691
  let c0_i32_424 : BitVec 32 := 0#32
  let v689 : BitVec 1 := Scalar.cmpi .ne v688 c0_i32_424
  let v693 : BitVec 1 := Scalar.andi v692 v689
  let v694 : BitVec 32 := Scalar.addi v688 v687
  let v695 : BitVec 32 := Scalar.select v693 v694 v688
  let c128_i32_464 : BitVec 32 := 128#32
  let v731 : BitVec 32 := Scalar.muli v695 c128_i32_464
  let v732 : BitVec 32 := Scalar.addi c0_i32_465 v731
  let c64_i32_466 : BitVec 32 := 64#32
  let v733 : BitVec 32 := Scalar.addi v732 c64_i32_466
  let v734 : Index := Scalar.indexCast v733
  let c0_467 : Index := 0#32
  ![v734.toNat, 0]
def k0_off23 (d0 : Dev nD) (c0_i32_472 : BitVec 32) : Fin 2 → Nat :=
  let c512_i32_503 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_471 : BitVec 32 := 3#32
  let v743 : BitVec 32 := Scalar.addi v36 c3_i32_471
  let v744 : BitVec 32 := Scalar.subi v743 c0_i32_472
  let c4_i32_473 : BitVec 32 := 4#32
  let c0_i32_474 : BitVec 32 := 0#32
  let v745 : BitVec 1 := Scalar.cmpi .eq c4_i32_473 c0_i32_474
  let c1_i32_475 : BitVec 32 := 1#32
  let v746 : BitVec 32 := Scalar.select v745 c1_i32_475 c4_i32_473
  let v747 : BitVec 32 := Scalar.remsi v744 v746
  let c0_i32_477 : BitVec 32 := 0#32
  let v749 : BitVec 1 := Scalar.cmpi .slt v747 c0_i32_477
  let c0_i32_478 : BitVec 32 := 0#32
  let v750 : BitVec 1 := Scalar.cmpi .slt v746 c0_i32_478
  let v751 : BitVec 1 := Scalar.xori v749 v750
  let c0_i32_476 : BitVec 32 := 0#32
  let v748 : BitVec 1 := Scalar.cmpi .ne v747 c0_i32_476
  let v752 : BitVec 1 := Scalar.andi v751 v748
  let v753 : BitVec 32 := Scalar.addi v747 v746
  let v754 : BitVec 32 := Scalar.select v752 v753 v747
  let c128_i32_502 : BitVec 32 := 128#32
  let v779 : BitVec 32 := Scalar.muli v754 c128_i32_502
  let v780 : BitVec 32 := Scalar.addi c512_i32_503 v779
  let v781 : Index := Scalar.indexCast v780
  let c0_504 : Index := 0#32
  ![v781.toNat, 0]
def k0_off24 (d0 : Dev nD) (c0_i32_480 : BitVec 32) : Fin 2 → Nat :=
  let c512_i32_525 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_479 : BitVec 32 := 3#32
  let v755 : BitVec 32 := Scalar.addi v36 c3_i32_479
  let v756 : BitVec 32 := Scalar.addi v755 c0_i32_480
  let c4_i32_481 : BitVec 32 := 4#32
  let c0_i32_482 : BitVec 32 := 0#32
  let v757 : BitVec 1 := Scalar.cmpi .eq c4_i32_481 c0_i32_482
  let c1_i32_483 : BitVec 32 := 1#32
  let v758 : BitVec 32 := Scalar.select v757 c1_i32_483 c4_i32_481
  let v759 : BitVec 32 := Scalar.remsi v756 v758
  let c0_i32_485 : BitVec 32 := 0#32
  let v761 : BitVec 1 := Scalar.cmpi .slt v759 c0_i32_485
  let c0_i32_486 : BitVec 32 := 0#32
  let v762 : BitVec 1 := Scalar.cmpi .slt v758 c0_i32_486
  let v763 : BitVec 1 := Scalar.xori v761 v762
  let c0_i32_484 : BitVec 32 := 0#32
  let v760 : BitVec 1 := Scalar.cmpi .ne v759 c0_i32_484
  let v764 : BitVec 1 := Scalar.andi v763 v760
  let v765 : BitVec 32 := Scalar.addi v759 v758
  let v766 : BitVec 32 := Scalar.select v764 v765 v759
  let c128_i32_524 : BitVec 32 := 128#32
  let v802 : BitVec 32 := Scalar.muli v766 c128_i32_524
  let v803 : BitVec 32 := Scalar.addi c512_i32_525 v802
  let c64_i32_526 : BitVec 32 := 64#32
  let v804 : BitVec 32 := Scalar.addi v803 c64_i32_526
  let v805 : Index := Scalar.indexCast v804
  let c0_527 : Index := 0#32
  ![v805.toNat, 0]
def k0_dev10 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_556 : BitVec 32 := 1#32
  let v843 : BitVec 32 := Scalar.muli v48 c1_i32_556
  let v844 : BitVec 32 := Scalar.addi c0_i32_557 v843
  v844.toNat
def k0_dev11 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_564 : BitVec 32 := 1#32
  let v852 : BitVec 32 := Scalar.muli v60 c1_i32_564
  let v853 : BitVec 32 := Scalar.addi c0_i32_565 v852
  v853.toNat
def k0_dev12 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_592 : BitVec 32 := 1#32
  let v890 : BitVec 32 := Scalar.muli v79 c1_i32_592
  let v891 : BitVec 32 := Scalar.addi c0_i32_593 v890
  v891.toNat
def k0_dev13 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_599 : BitVec 32 := 1#32
  let v899 : BitVec 32 := Scalar.muli v98 c1_i32_599
  let v900 : BitVec 32 := Scalar.addi c0_i32_600 v899
  v900.toNat
def k0_dev14 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_748 : BitVec 32 := 1#32
  let v1079 : BitVec 32 := Scalar.muli v48 c1_i32_748
  let v1080 : BitVec 32 := Scalar.addi c0_i32_749 v1079
  v1080.toNat
def k0_dev15 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_756 : BitVec 32 := 1#32
  let v1088 : BitVec 32 := Scalar.muli v60 c1_i32_756
  let v1089 : BitVec 32 := Scalar.addi c0_i32_757 v1088
  v1089.toNat
def k0_dev16 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_784 : BitVec 32 := 1#32
  let v1126 : BitVec 32 := Scalar.muli v79 c1_i32_784
  let v1127 : BitVec 32 := Scalar.addi c0_i32_785 v1126
  v1127.toNat
def k0_dev17 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_791 : BitVec 32 := 1#32
  let v1135 : BitVec 32 := Scalar.muli v98 c1_i32_791
  let v1136 : BitVec 32 := Scalar.addi c0_i32_792 v1135
  v1136.toNat
def k0_off25 (d0 : Dev nD) : Fin 2 → Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_115 : BitVec 32 := 1#32
  let v188 : BitVec 32 := Scalar.addi v29 c1_i32_115
  let c4_i32_116 : BitVec 32 := 4#32
  let c0_i32_117 : BitVec 32 := 0#32
  let v189 : BitVec 1 := Scalar.cmpi .eq c4_i32_116 c0_i32_117
  let c1_i32_118 : BitVec 32 := 1#32
  let v190 : BitVec 32 := Scalar.select v189 c1_i32_118 c4_i32_116
  let v191 : BitVec 32 := Scalar.remsi v188 v190
  let c0_i32_120 : BitVec 32 := 0#32
  let v193 : BitVec 1 := Scalar.cmpi .slt v191 c0_i32_120
  let c0_i32_121 : BitVec 32 := 0#32
  let v194 : BitVec 1 := Scalar.cmpi .slt v190 c0_i32_121
  let v195 : BitVec 1 := Scalar.xori v193 v194
  let c0_i32_119 : BitVec 32 := 0#32
  let v192 : BitVec 1 := Scalar.cmpi .ne v191 c0_i32_119
  let v196 : BitVec 1 := Scalar.andi v195 v192
  let v197 : BitVec 32 := Scalar.addi v191 v190
  let v198 : BitVec 32 := Scalar.select v196 v197 v191
  let c128_i32 : BitVec 32 := 128#32
  let v199 : BitVec 32 := Scalar.muli v198 c128_i32
  let v200 : BitVec 32 := Scalar.addi c0_i32_122 v199
  let c1_i32_123 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v126 : BitVec 1 := Scalar.cmpi .eq c2_i32_74 c0_i32_75
  let c1_i32_76 : BitVec 32 := 1#32
  let v127 : BitVec 32 := Scalar.select v126 c1_i32_76 c2_i32_74
  let v128 : BitVec 32 := Scalar.remsi v19 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let v203 : BitVec 32 := Scalar.subi c1_i32_123 v135
  let c64_i32_124 : BitVec 32 := 64#32
  let v204 : BitVec 32 := Scalar.muli v203 c64_i32_124
  let v205 : BitVec 32 := Scalar.addi v200 v204
  let c0_i32_919 : BitVec 32 := 0#32
  ![v205.toNat, 0]
def k0_dev18 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v161 : BitVec 32 := Scalar.addi v19 c1_i32_91
  let c2_i32_92 : BitVec 32 := 2#32
  let c2_i32_74 : BitVec 32 := 2#32
  let c0_i32_75 : BitVec 32 := 0#32
  let v126 : BitVec 1 := Scalar.cmpi .eq c2_i32_74 c0_i32_75
  let c1_i32_76 : BitVec 32 := 1#32
  let v127 : BitVec 32 := Scalar.select v126 c1_i32_76 c2_i32_74
  let v128 : BitVec 32 := Scalar.remsi v19 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let v162 : BitVec 32 := Scalar.muli c2_i32_92 v135
  let v163 : BitVec 32 := Scalar.subi v161 v162
  let c4_i32_93 : BitVec 32 := 4#32
  let v164 : BitVec 32 := Scalar.muli v163 c4_i32_93
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v165 : BitVec 32 := Scalar.addi v164 v29
  let c1_i32_917 : BitVec 32 := 1#32
  let v1286 : BitVec 32 := Scalar.muli v165 c1_i32_917
  let v1287 : BitVec 32 := Scalar.addi c0_i32_918 v1286
  v1287.toNat
def k0_off26 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_128 : BitVec 32 := 1#32
  let v212 : BitVec 32 := Scalar.addi v36 c1_i32_128
  let c4_i32_129 : BitVec 32 := 4#32
  let c0_i32_130 : BitVec 32 := 0#32
  let v213 : BitVec 1 := Scalar.cmpi .eq c4_i32_129 c0_i32_130
  let c1_i32_131 : BitVec 32 := 1#32
  let v214 : BitVec 32 := Scalar.select v213 c1_i32_131 c4_i32_129
  let v215 : BitVec 32 := Scalar.remsi v212 v214
  let c0_i32_133 : BitVec 32 := 0#32
  let v217 : BitVec 1 := Scalar.cmpi .slt v215 c0_i32_133
  let c0_i32_134 : BitVec 32 := 0#32
  let v218 : BitVec 1 := Scalar.cmpi .slt v214 c0_i32_134
  let v219 : BitVec 1 := Scalar.xori v217 v218
  let c0_i32_132 : BitVec 32 := 0#32
  let v216 : BitVec 1 := Scalar.cmpi .ne v215 c0_i32_132
  let v220 : BitVec 1 := Scalar.andi v219 v216
  let v221 : BitVec 32 := Scalar.addi v215 v214
  let v222 : BitVec 32 := Scalar.select v220 v221 v215
  let c128_i32_135 : BitVec 32 := 128#32
  let v223 : BitVec 32 := Scalar.muli v222 c128_i32_135
  let v224 : BitVec 32 := Scalar.addi c512_i32 v223
  let c1_i32_137 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_61 : BitVec 32 := 2#32
  let c0_i32_62 : BitVec 32 := 0#32
  let v99 : BitVec 1 := Scalar.cmpi .eq c2_i32_61 c0_i32_62
  let c1_i32_63 : BitVec 32 := 1#32
  let v100 : BitVec 32 := Scalar.select v99 c1_i32_63 c2_i32_61
  let v101 : BitVec 32 := Scalar.remsi v29 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let v227 : BitVec 32 := Scalar.subi c1_i32_137 v108
  let c64_i32_138 : BitVec 32 := 64#32
  let v228 : BitVec 32 := Scalar.muli v227 c64_i32_138
  let v229 : BitVec 32 := Scalar.addi v224 v228
  let c0_i32_923 : BitVec 32 := 0#32
  ![v229.toNat, 0]
def k0_dev19 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v153 : BitVec 32 := Scalar.addi v30 v29
  let c1_i32_87 : BitVec 32 := 1#32
  let v154 : BitVec 32 := Scalar.addi v153 c1_i32_87
  let c2_i32_88 : BitVec 32 := 2#32
  let c2_i32_61 : BitVec 32 := 2#32
  let c0_i32_62 : BitVec 32 := 0#32
  let v99 : BitVec 1 := Scalar.cmpi .eq c2_i32_61 c0_i32_62
  let c1_i32_63 : BitVec 32 := 1#32
  let v100 : BitVec 32 := Scalar.select v99 c1_i32_63 c2_i32_61
  let v101 : BitVec 32 := Scalar.remsi v29 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let v155 : BitVec 32 := Scalar.muli c2_i32_88 v108
  let v156 : BitVec 32 := Scalar.subi v154 v155
  let c1_i32_921 : BitVec 32 := 1#32
  let v1293 : BitVec 32 := Scalar.muli v156 c1_i32_921
  let v1294 : BitVec 32 := Scalar.addi c0_i32_922 v1293
  v1294.toNat
def k0_off27 (d0 : Dev nD) : Fin 2 → Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_115 : BitVec 32 := 1#32
  let v188 : BitVec 32 := Scalar.addi v29 c1_i32_115
  let c4_i32_116 : BitVec 32 := 4#32
  let c0_i32_117 : BitVec 32 := 0#32
  let v189 : BitVec 1 := Scalar.cmpi .eq c4_i32_116 c0_i32_117
  let c1_i32_118 : BitVec 32 := 1#32
  let v190 : BitVec 32 := Scalar.select v189 c1_i32_118 c4_i32_116
  let v191 : BitVec 32 := Scalar.remsi v188 v190
  let c0_i32_120 : BitVec 32 := 0#32
  let v193 : BitVec 1 := Scalar.cmpi .slt v191 c0_i32_120
  let c0_i32_121 : BitVec 32 := 0#32
  let v194 : BitVec 1 := Scalar.cmpi .slt v190 c0_i32_121
  let v195 : BitVec 1 := Scalar.xori v193 v194
  let c0_i32_119 : BitVec 32 := 0#32
  let v192 : BitVec 1 := Scalar.cmpi .ne v191 c0_i32_119
  let v196 : BitVec 1 := Scalar.andi v195 v192
  let v197 : BitVec 32 := Scalar.addi v191 v190
  let v198 : BitVec 32 := Scalar.select v196 v197 v191
  let c128_i32 : BitVec 32 := 128#32
  let v199 : BitVec 32 := Scalar.muli v198 c128_i32
  let v200 : BitVec 32 := Scalar.addi c0_i32_122 v199
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v126 : BitVec 1 := Scalar.cmpi .eq c2_i32_74 c0_i32_75
  let c1_i32_76 : BitVec 32 := 1#32
  let v127 : BitVec 32 := Scalar.select v126 c1_i32_76 c2_i32_74
  let v128 : BitVec 32 := Scalar.remsi v19 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let c64_i32 : BitVec 32 := 64#32
  let v201 : BitVec 32 := Scalar.muli v135 c64_i32
  let v202 : BitVec 32 := Scalar.addi v200 v201
  let v1308 : Index := Scalar.indexCast v202
  let c0_933 : Index := 0#32
  ![v1308.toNat, 0]
def k0_off28 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_128 : BitVec 32 := 1#32
  let v212 : BitVec 32 := Scalar.addi v36 c1_i32_128
  let c4_i32_129 : BitVec 32 := 4#32
  let c0_i32_130 : BitVec 32 := 0#32
  let v213 : BitVec 1 := Scalar.cmpi .eq c4_i32_129 c0_i32_130
  let c1_i32_131 : BitVec 32 := 1#32
  let v214 : BitVec 32 := Scalar.select v213 c1_i32_131 c4_i32_129
  let v215 : BitVec 32 := Scalar.remsi v212 v214
  let c0_i32_133 : BitVec 32 := 0#32
  let v217 : BitVec 1 := Scalar.cmpi .slt v215 c0_i32_133
  let c0_i32_134 : BitVec 32 := 0#32
  let v218 : BitVec 1 := Scalar.cmpi .slt v214 c0_i32_134
  let v219 : BitVec 1 := Scalar.xori v217 v218
  let c0_i32_132 : BitVec 32 := 0#32
  let v216 : BitVec 1 := Scalar.cmpi .ne v215 c0_i32_132
  let v220 : BitVec 1 := Scalar.andi v219 v216
  let v221 : BitVec 32 := Scalar.addi v215 v214
  let v222 : BitVec 32 := Scalar.select v220 v221 v215
  let c128_i32_135 : BitVec 32 := 128#32
  let v223 : BitVec 32 := Scalar.muli v222 c128_i32_135
  let v224 : BitVec 32 := Scalar.addi c512_i32 v223
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_61 : BitVec 32 := 2#32
  let c0_i32_62 : BitVec 32 := 0#32
  let v99 : BitVec 1 := Scalar.cmpi .eq c2_i32_61 c0_i32_62
  let c1_i32_63 : BitVec 32 := 1#32
  let v100 : BitVec 32 := Scalar.select v99 c1_i32_63 c2_i32_61
  let v101 : BitVec 32 := Scalar.remsi v29 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let c64_i32_136 : BitVec 32 := 64#32
  let v225 : BitVec 32 := Scalar.muli v108 c64_i32_136
  let v226 : BitVec 32 := Scalar.addi v224 v225
  let v1324 : Index := Scalar.indexCast v226
  let c0_946 : Index := 0#32
  ![v1324.toNat, 0]
def k0_off29 (d0 : Dev nD) : Fin 2 → Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_115 : BitVec 32 := 1#32
  let v188 : BitVec 32 := Scalar.addi v29 c1_i32_115
  let c4_i32_116 : BitVec 32 := 4#32
  let c0_i32_117 : BitVec 32 := 0#32
  let v189 : BitVec 1 := Scalar.cmpi .eq c4_i32_116 c0_i32_117
  let c1_i32_118 : BitVec 32 := 1#32
  let v190 : BitVec 32 := Scalar.select v189 c1_i32_118 c4_i32_116
  let v191 : BitVec 32 := Scalar.remsi v188 v190
  let c0_i32_120 : BitVec 32 := 0#32
  let v193 : BitVec 1 := Scalar.cmpi .slt v191 c0_i32_120
  let c0_i32_121 : BitVec 32 := 0#32
  let v194 : BitVec 1 := Scalar.cmpi .slt v190 c0_i32_121
  let v195 : BitVec 1 := Scalar.xori v193 v194
  let c0_i32_119 : BitVec 32 := 0#32
  let v192 : BitVec 1 := Scalar.cmpi .ne v191 c0_i32_119
  let v196 : BitVec 1 := Scalar.andi v195 v192
  let v197 : BitVec 32 := Scalar.addi v191 v190
  let v198 : BitVec 32 := Scalar.select v196 v197 v191
  let c128_i32 : BitVec 32 := 128#32
  let v199 : BitVec 32 := Scalar.muli v198 c128_i32
  let v200 : BitVec 32 := Scalar.addi c0_i32_122 v199
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v126 : BitVec 1 := Scalar.cmpi .eq c2_i32_74 c0_i32_75
  let c1_i32_76 : BitVec 32 := 1#32
  let v127 : BitVec 32 := Scalar.select v126 c1_i32_76 c2_i32_74
  let v128 : BitVec 32 := Scalar.remsi v19 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let c64_i32_125 : BitVec 32 := 64#32
  let v206 : BitVec 32 := Scalar.muli v135 c64_i32_125
  let v207 : BitVec 32 := Scalar.addi v200 v206
  let c0_i32_953 : BitVec 32 := 0#32
  ![v207.toNat, 0]
def k0_dev20 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_94 : BitVec 32 := 2#32
  let v166 : BitVec 32 := Scalar.addi v19 c2_i32_94
  let c4_i32_95 : BitVec 32 := 4#32
  let c0_i32_81 : BitVec 32 := 0#32
  let v137 : BitVec 1 := Scalar.cmpi .sgt v19 c0_i32_81
  let v138 : BitVec 32 := Scalar.extui v137
  let c0_i32_82 : BitVec 32 := 0#32
  let v139 : BitVec 1 := Scalar.cmpi .slt v19 c0_i32_82
  let v140 : BitVec 32 := Scalar.extui v139
  let v141 : BitVec 32 := Scalar.subi v138 v140
  let c2_i32_80 : BitVec 32 := 2#32
  let c0_i32_83 : BitVec 32 := 0#32
  let v142 : BitVec 1 := Scalar.cmpi .sgt c2_i32_80 c0_i32_83
  let v143 : BitVec 32 := Scalar.extui v142
  let c0_i32_84 : BitVec 32 := 0#32
  let v144 : BitVec 1 := Scalar.cmpi .slt c2_i32_80 c0_i32_84
  let v145 : BitVec 32 := Scalar.extui v144
  let v146 : BitVec 32 := Scalar.subi v143 v145
  let v147 : BitVec 1 := Scalar.cmpi .ne v141 v146
  let v148 : BitVec 32 := Scalar.remsi v19 c2_i32_80
  let c0_i32_85 : BitVec 32 := 0#32
  let v149 : BitVec 1 := Scalar.cmpi .ne v148 c0_i32_85
  let v150 : BitVec 1 := Scalar.andi v147 v149
  let v136 : BitVec 32 := Scalar.divsi v19 c2_i32_80
  let c1_i32_86 : BitVec 32 := 1#32
  let v151 : BitVec 32 := Scalar.subi v136 c1_i32_86
  let v152 : BitVec 32 := Scalar.select v150 v151 v136
  let v167 : BitVec 32 := Scalar.muli c4_i32_95 v152
  let v168 : BitVec 32 := Scalar.subi v166 v167
  let c4_i32_96 : BitVec 32 := 4#32
  let v169 : BitVec 32 := Scalar.muli v168 c4_i32_96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v170 : BitVec 32 := Scalar.addi v169 v29
  let c1_i32_951 : BitVec 32 := 1#32
  let v1332 : BitVec 32 := Scalar.muli v170 c1_i32_951
  let v1333 : BitVec 32 := Scalar.addi c0_i32_952 v1332
  v1333.toNat
def k0_off30 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_128 : BitVec 32 := 1#32
  let v212 : BitVec 32 := Scalar.addi v36 c1_i32_128
  let c4_i32_129 : BitVec 32 := 4#32
  let c0_i32_130 : BitVec 32 := 0#32
  let v213 : BitVec 1 := Scalar.cmpi .eq c4_i32_129 c0_i32_130
  let c1_i32_131 : BitVec 32 := 1#32
  let v214 : BitVec 32 := Scalar.select v213 c1_i32_131 c4_i32_129
  let v215 : BitVec 32 := Scalar.remsi v212 v214
  let c0_i32_133 : BitVec 32 := 0#32
  let v217 : BitVec 1 := Scalar.cmpi .slt v215 c0_i32_133
  let c0_i32_134 : BitVec 32 := 0#32
  let v218 : BitVec 1 := Scalar.cmpi .slt v214 c0_i32_134
  let v219 : BitVec 1 := Scalar.xori v217 v218
  let c0_i32_132 : BitVec 32 := 0#32
  let v216 : BitVec 1 := Scalar.cmpi .ne v215 c0_i32_132
  let v220 : BitVec 1 := Scalar.andi v219 v216
  let v221 : BitVec 32 := Scalar.addi v215 v214
  let v222 : BitVec 32 := Scalar.select v220 v221 v215
  let c128_i32_135 : BitVec 32 := 128#32
  let v223 : BitVec 32 := Scalar.muli v222 c128_i32_135
  let v224 : BitVec 32 := Scalar.addi c512_i32 v223
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_61 : BitVec 32 := 2#32
  let c0_i32_62 : BitVec 32 := 0#32
  let v99 : BitVec 1 := Scalar.cmpi .eq c2_i32_61 c0_i32_62
  let c1_i32_63 : BitVec 32 := 1#32
  let v100 : BitVec 32 := Scalar.select v99 c1_i32_63 c2_i32_61
  let v101 : BitVec 32 := Scalar.remsi v29 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let c64_i32_139 : BitVec 32 := 64#32
  let v230 : BitVec 32 := Scalar.muli v108 c64_i32_139
  let v231 : BitVec 32 := Scalar.addi v224 v230
  let c0_i32_957 : BitVec 32 := 0#32
  ![v231.toNat, 0]
def k0_dev21 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_89 : BitVec 32 := 2#32
  let v157 : BitVec 32 := Scalar.addi v29 c2_i32_89
  let c4_i32_90 : BitVec 32 := 4#32
  let c0_i32_68 : BitVec 32 := 0#32
  let v110 : BitVec 1 := Scalar.cmpi .sgt v29 c0_i32_68
  let v111 : BitVec 32 := Scalar.extui v110
  let c0_i32_69 : BitVec 32 := 0#32
  let v112 : BitVec 1 := Scalar.cmpi .slt v29 c0_i32_69
  let v113 : BitVec 32 := Scalar.extui v112
  let v114 : BitVec 32 := Scalar.subi v111 v113
  let c2_i32_67 : BitVec 32 := 2#32
  let c0_i32_70 : BitVec 32 := 0#32
  let v115 : BitVec 1 := Scalar.cmpi .sgt c2_i32_67 c0_i32_70
  let v116 : BitVec 32 := Scalar.extui v115
  let c0_i32_71 : BitVec 32 := 0#32
  let v117 : BitVec 1 := Scalar.cmpi .slt c2_i32_67 c0_i32_71
  let v118 : BitVec 32 := Scalar.extui v117
  let v119 : BitVec 32 := Scalar.subi v116 v118
  let v120 : BitVec 1 := Scalar.cmpi .ne v114 v119
  let v121 : BitVec 32 := Scalar.remsi v29 c2_i32_67
  let c0_i32_72 : BitVec 32 := 0#32
  let v122 : BitVec 1 := Scalar.cmpi .ne v121 c0_i32_72
  let v123 : BitVec 1 := Scalar.andi v120 v122
  let v109 : BitVec 32 := Scalar.divsi v29 c2_i32_67
  let c1_i32_73 : BitVec 32 := 1#32
  let v124 : BitVec 32 := Scalar.subi v109 c1_i32_73
  let v125 : BitVec 32 := Scalar.select v123 v124 v109
  let v158 : BitVec 32 := Scalar.muli c4_i32_90 v125
  let v159 : BitVec 32 := Scalar.subi v157 v158
  let v160 : BitVec 32 := Scalar.addi v30 v159
  let c1_i32_955 : BitVec 32 := 1#32
  let v1339 : BitVec 32 := Scalar.muli v160 c1_i32_955
  let v1340 : BitVec 32 := Scalar.addi c0_i32_956 v1339
  v1340.toNat
def k0_dev22 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v161 : BitVec 32 := Scalar.addi v19 c1_i32_91
  let c2_i32_92 : BitVec 32 := 2#32
  let c2_i32_74 : BitVec 32 := 2#32
  let c0_i32_75 : BitVec 32 := 0#32
  let v126 : BitVec 1 := Scalar.cmpi .eq c2_i32_74 c0_i32_75
  let c1_i32_76 : BitVec 32 := 1#32
  let v127 : BitVec 32 := Scalar.select v126 c1_i32_76 c2_i32_74
  let v128 : BitVec 32 := Scalar.remsi v19 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let v162 : BitVec 32 := Scalar.muli c2_i32_92 v135
  let v163 : BitVec 32 := Scalar.subi v161 v162
  let c4_i32_93 : BitVec 32 := 4#32
  let v164 : BitVec 32 := Scalar.muli v163 c4_i32_93
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v165 : BitVec 32 := Scalar.addi v164 v29
  let c1_i32_995 : BitVec 32 := 1#32
  let v1406 : BitVec 32 := Scalar.muli v165 c1_i32_995
  let v1407 : BitVec 32 := Scalar.addi c0_i32_996 v1406
  v1407.toNat
def k0_dev23 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v153 : BitVec 32 := Scalar.addi v30 v29
  let c1_i32_87 : BitVec 32 := 1#32
  let v154 : BitVec 32 := Scalar.addi v153 c1_i32_87
  let c2_i32_88 : BitVec 32 := 2#32
  let c2_i32_61 : BitVec 32 := 2#32
  let c0_i32_62 : BitVec 32 := 0#32
  let v99 : BitVec 1 := Scalar.cmpi .eq c2_i32_61 c0_i32_62
  let c1_i32_63 : BitVec 32 := 1#32
  let v100 : BitVec 32 := Scalar.select v99 c1_i32_63 c2_i32_61
  let v101 : BitVec 32 := Scalar.remsi v29 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let v155 : BitVec 32 := Scalar.muli c2_i32_88 v108
  let v156 : BitVec 32 := Scalar.subi v154 v155
  let c1_i32_1000 : BitVec 32 := 1#32
  let v1414 : BitVec 32 := Scalar.muli v156 c1_i32_1000
  let v1415 : BitVec 32 := Scalar.addi c0_i32_1001 v1414
  v1415.toNat
def k0_dev24 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_1053 : BitVec 32 := 1#32
  let v1476 : BitVec 32 := Scalar.muli v48 c1_i32_1053
  let v1477 : BitVec 32 := Scalar.addi c0_i32_1054 v1476
  v1477.toNat
def k0_dev25 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_1058 : BitVec 32 := 1#32
  let v1484 : BitVec 32 := Scalar.muli v60 c1_i32_1058
  let v1485 : BitVec 32 := Scalar.addi c0_i32_1059 v1484
  v1485.toNat
def k0_dev26 (d0 : Dev nD) : Nat :=
  let c0_i32_1090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_1089 : BitVec 32 := 1#32
  let v1526 : BitVec 32 := Scalar.muli v79 c1_i32_1089
  let v1527 : BitVec 32 := Scalar.addi c0_i32_1090 v1526
  v1527.toNat
def k0_dev27 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_1094 : BitVec 32 := 1#32
  let v1534 : BitVec 32 := Scalar.muli v98 c1_i32_1094
  let v1535 : BitVec 32 := Scalar.addi c0_i32_1095 v1534
  v1535.toNat
def k0_dev28 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_1169 : BitVec 32 := 1#32
  let v1616 : BitVec 32 := Scalar.muli v48 c1_i32_1169
  let v1617 : BitVec 32 := Scalar.addi c0_i32_1170 v1616
  v1617.toNat
def k0_dev29 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_1174 : BitVec 32 := 1#32
  let v1624 : BitVec 32 := Scalar.muli v60 c1_i32_1174
  let v1625 : BitVec 32 := Scalar.addi c0_i32_1175 v1624
  v1625.toNat
def k0_dev30 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_1205 : BitVec 32 := 1#32
  let v1666 : BitVec 32 := Scalar.muli v79 c1_i32_1205
  let v1667 : BitVec 32 := Scalar.addi c0_i32_1206 v1666
  v1667.toNat
def k0_dev31 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_1210 : BitVec 32 := 1#32
  let v1674 : BitVec 32 := Scalar.muli v98 c1_i32_1210
  let v1675 : BitVec 32 := Scalar.addi c0_i32_1211 v1674
  v1675.toNat
def k0_dev32 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v37 : BitVec 32 := Scalar.addi v29 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.addi v30 v47
  let c1_i32_1286 : BitVec 32 := 1#32
  let v1756 : BitVec 32 := Scalar.muli v48 c1_i32_1286
  let v1757 : BitVec 32 := Scalar.addi c0_i32_1287 v1756
  v1757.toNat
def k0_dev33 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_24 : BitVec 32 := 3#32
  let v49 : BitVec 32 := Scalar.addi v29 c3_i32_24
  let c4_i32_25 : BitVec 32 := 4#32
  let c0_i32_26 : BitVec 32 := 0#32
  let v50 : BitVec 1 := Scalar.cmpi .eq c4_i32_25 c0_i32_26
  let c1_i32_27 : BitVec 32 := 1#32
  let v51 : BitVec 32 := Scalar.select v50 c1_i32_27 c4_i32_25
  let v52 : BitVec 32 := Scalar.remsi v49 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let v60 : BitVec 32 := Scalar.addi v30 v59
  let c1_i32_1291 : BitVec 32 := 1#32
  let v1764 : BitVec 32 := Scalar.muli v60 c1_i32_1291
  let v1765 : BitVec 32 := Scalar.addi c0_i32_1292 v1764
  v1765.toNat
def k0_dev34 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c1_i32_31 : BitVec 32 := 1#32
  let v61 : BitVec 32 := Scalar.addi v36 c1_i32_31
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_38 : BitVec 32 := 0#32
  let v72 : BitVec 1 := Scalar.cmpi .eq v71 c0_i32_38
  let c0_i32_44 : BitVec 32 := 0#32
  let c1_i32_39 : BitVec 32 := 1#32
  let v73 : BitVec 1 := Scalar.cmpi .eq v71 c1_i32_39
  let c2_i32_43 : BitVec 32 := 2#32
  let c2_i32_40 : BitVec 32 := 2#32
  let v74 : BitVec 1 := Scalar.cmpi .eq v71 c2_i32_40
  let c3_i32_41 : BitVec 32 := 3#32
  let c1_i32_42 : BitVec 32 := 1#32
  let v75 : BitVec 32 := Scalar.select v74 c3_i32_41 c1_i32_42
  let v76 : BitVec 32 := Scalar.select v73 c2_i32_43 v75
  let v77 : BitVec 32 := Scalar.select v72 c0_i32_44 v76
  let c4_i32_45 : BitVec 32 := 4#32
  let v78 : BitVec 32 := Scalar.muli v77 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v79 : BitVec 32 := Scalar.addi v78 v29
  let c1_i32_1322 : BitVec 32 := 1#32
  let v1806 : BitVec 32 := Scalar.muli v79 c1_i32_1322
  let v1807 : BitVec 32 := Scalar.addi c0_i32_1323 v1806
  v1807.toNat
def k0_dev35 (d0 : Dev nD) : Nat :=
  let c0_i32_1328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_16 : BitVec 32 := 0#32
  let c1_i32_13 : BitVec 32 := 1#32
  let v32 : BitVec 1 := Scalar.cmpi .eq v19 c1_i32_13
  let c3_i32 : BitVec 32 := 3#32
  let c2_i32 : BitVec 32 := 2#32
  let v33 : BitVec 1 := Scalar.cmpi .eq v19 c2_i32
  let c1_i32_14 : BitVec 32 := 1#32
  let c2_i32_15 : BitVec 32 := 2#32
  let v34 : BitVec 32 := Scalar.select v33 c1_i32_14 c2_i32_15
  let v35 : BitVec 32 := Scalar.select v32 c3_i32 v34
  let v36 : BitVec 32 := Scalar.select v31 c0_i32_16 v35
  let c3_i32_46 : BitVec 32 := 3#32
  let v80 : BitVec 32 := Scalar.addi v36 c3_i32_46
  let c4_i32_47 : BitVec 32 := 4#32
  let c0_i32_48 : BitVec 32 := 0#32
  let v81 : BitVec 1 := Scalar.cmpi .eq c4_i32_47 c0_i32_48
  let c1_i32_49 : BitVec 32 := 1#32
  let v82 : BitVec 32 := Scalar.select v81 c1_i32_49 c4_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c0_i32_53 : BitVec 32 := 0#32
  let v91 : BitVec 1 := Scalar.cmpi .eq v90 c0_i32_53
  let c0_i32_59 : BitVec 32 := 0#32
  let c1_i32_54 : BitVec 32 := 1#32
  let v92 : BitVec 1 := Scalar.cmpi .eq v90 c1_i32_54
  let c2_i32_58 : BitVec 32 := 2#32
  let c2_i32_55 : BitVec 32 := 2#32
  let v93 : BitVec 1 := Scalar.cmpi .eq v90 c2_i32_55
  let c3_i32_56 : BitVec 32 := 3#32
  let c1_i32_57 : BitVec 32 := 1#32
  let v94 : BitVec 32 := Scalar.select v93 c3_i32_56 c1_i32_57
  let v95 : BitVec 32 := Scalar.select v92 c2_i32_58 v94
  let v96 : BitVec 32 := Scalar.select v91 c0_i32_59 v95
  let c4_i32_60 : BitVec 32 := 4#32
  let v97 : BitVec 32 := Scalar.muli v96 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v98 : BitVec 32 := Scalar.addi v97 v29
  let c1_i32_1327 : BitVec 32 := 1#32
  let v1814 : BitVec 32 := Scalar.muli v98 c1_i32_1327
  let v1815 : BitVec 32 := Scalar.addi c0_i32_1328 v1814
  v1815.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Topo.lean ====
/-
The 4 × 4 torus the sixteen devices form, the two halves of the rows and the thirty copies of a device.

Device `c` sits at plane `c / 4` and place `c % 4`. The rows are two halves of 512: half 0 goes round the ring of the
places first and is exchanged between planes, half 1 goes round the ring of the planes (in the order 0, 2, 3, 1) first
and is exchanged between places. A half is four chunks of 128 rows, a chunk two blocks of 64 rows.
-/
module

public import proofs.«01_k».proof.Proof.Gen.KernelIdeal
public import proofs.«01_k».proof.Proof.Gen.KernelIdeal.Skeleton

@[expose] public section

set_option backward.proofsInPublic true

namespace Cert.Silu

open Cert.KernelIdeal Cert.KernelIdeal.Gen
open Idealize.ShloMosaic

/-- Plane and place of a device. -/
def plane (c : Dev nD) : Fin 4 := ⟨c.val / 4, by have h : c.val < 16 := c.isLt; omega⟩
def place (c : Dev nD) : Fin 4 := ⟨c.val % 4, by omega⟩
/-- The device at a plane and a place. -/
def devAt (p q : Fin 4) : Dev nD := ⟨4 * p.val + q.val, show _ < 16 by omega⟩
/-- Where a plane stands on the ring of the planes, and which plane stands there. -/
def ringOf : Fin 4 → Fin 4 := ![0, 3, 1, 2]
def planeOf : Fin 4 → Fin 4 := ![0, 2, 3, 1]

/-- A device's position on the ring of half `h`. -/
def pos (h : Fin 2) (c : Dev nD) : Fin 4 := if h = 0 then place c else ringOf (plane c)
/-- The next and the previous device on the ring of half `h`. -/
def right (h : Fin 2) (c : Dev nD) : Dev nD :=
  if h = 0 then devAt (plane c) (place c + 1) else devAt (planeOf (ringOf (plane c) + 1)) (place c)
def left (h : Fin 2) (c : Dev nD) : Dev nD :=
  if h = 0 then devAt (plane c) (place c + 3) else devAt (planeOf (ringOf (plane c) + 3)) (place c)

/-- The coordinate half `h` is exchanged along, its low bit, and the partners at distance one and two. -/
def cross (h : Fin 2) (c : Dev nD) : Fin 4 := if h = 0 then plane c else place c
def bit (h : Fin 2) (c : Dev nD) : Fin 2 := ⟨(cross h c).val % 2, by omega⟩
def flip : Fin 4 → Fin 4 := ![1, 0, 3, 2]
def near (h : Fin 2) (c : Dev nD) : Dev nD :=
  if h = 0 then devAt (flip (plane c)) (place c) else devAt (plane c) (flip (place c))
def far (h : Fin 2) (c : Dev nD) : Dev nD :=
  if h = 0 then devAt (plane c + 2) (place c) else devAt (plane c) (place c + 2)

/-- A block of 64 rows: half, chunk, and which of the chunk's two blocks. -/
abbrev Blk : Type := Fin 2 × Fin 4 × Fin 2
/-- The first row of a block, as the offset of its rectangle. -/
def rowOff (b : Blk) : Fin 2 → Nat := ![512 * b.1.val + 128 * b.2.1.val + 64 * b.2.2.val, 0]

/-- The block of half `h` at the chunk `j` past the device's position. -/
def blkAt (h : Fin 2) (j : Fin 4) (u : Fin 2) (c : Dev nD) : Blk := (h, pos h c + j, u)

/-- A copy: its half, and which of the half's fifteen. Numbers 0 to 5 are the reduce-scatter round `n / 2` to the
    right (even) or left (odd), 6 and 7 the exchanges with the near and the far partner, 8 the near exchange of the
    result, 9 to 14 the all-gather rounds. -/
abbrev Cp : Type := Fin 2 × Fin 15

/-- The device a copy of `c` goes to, and the device whose copy comes to `c`. -/
def tgt (k : Cp) (c : Dev nD) : Dev nD :=
  match k.2.val with
  | 0 | 2 | 4 | 9 | 11 | 13 => right k.1 c
  | 1 | 3 | 5 | 10 | 12 | 14 => left k.1 c
  | 7 => far k.1 c
  | _ => near k.1 c
def src (k : Cp) (c : Dev nD) : Dev nD :=
  match k.2.val with
  | 0 | 2 | 4 | 9 | 11 | 13 => left k.1 c
  | 1 | 3 | 5 | 10 | 12 | 14 => right k.1 c
  | 7 => far k.1 c
  | _ => near k.1 c

/-- The block a copy of `c` reads. -/
def srcBlk (k : Cp) (c : Dev nD) : Blk :=
  match k.2.val with
  | 0 => blkAt k.1 0 0 c
  | 2 => blkAt k.1 3 0 c
  | 4 => blkAt k.1 2 0 c
  | 1 => blkAt k.1 2 1 c
  | 3 => blkAt k.1 3 1 c
  | 5 => blkAt k.1 0 1 c
  | 6 => blkAt k.1 1 (1 - bit k.1 c) c
  | 7 | 8 => blkAt k.1 1 (bit k.1 c) c
  | 9 => blkAt k.1 1 0 c
  | 11 => blkAt k.1 0 0 c
  | 13 => blkAt k.1 3 0 c
  | 10 => blkAt k.1 1 1 c
  | 12 => blkAt k.1 2 1 c
  | _ => blkAt k.1 3 1 c

/-- The number of a copy's semaphores, the round it is waited for in, and its place in the order of issue. -/
def sid (k : Cp) : Fin 64 :=
  ⟨18 * k.1.val + (![0, 1, 2, 3, 4, 5, 6, 8, 10, 12, 13, 14, 15, 16, 17] k.2), by
    rcases k with ⟨h, n⟩; revert h n; decide⟩
def round (k : Cp) : ℕ := (![0, 0, 1, 1, 2, 2, 3, 4, 5, 6, 6, 7, 7, 8, 8] : Fin 15 → ℕ) k.2
def rank (k : Cp) : ℕ :=
  (![0, 1, 4, 5, 8, 9, 12, 14, 16, 18, 19, 22, 23, 26, 27] : Fin 15 → ℕ) k.2 + (![2, 2, 2, 2, 2, 2, 1, 1, 1, 2, 2, 2, 2, 2, 2] : Fin 15 → ℕ) k.2 * k.1.val

/-- The five devices a device shakes hands with: the ring neighbours of the two halves and the far partner of half 1;
    and, of a peer, which of its five the device is. -/
def peer (s : Fin 5) (c : Dev nD) : Dev nD := (![right 0 c, left 0 c, right 1 c, left 1 c, far 1 c] : Fin 5 → Dev nD) s
def opp : Fin 5 → Fin 5 := ![1, 0, 3, 2, 4]
/-- Which of its peers a copy of `c` goes to. -/
def via (k : Cp) (c : Dev nD) : Fin 5 :=
  if tgt k c = right 0 c then 0 else if tgt k c = left 0 c then 1 else if tgt k c = right 1 c then 2
  else if tgt k c = left 1 c then 3 else 4

theorem src_tgt : ∀ (k : Cp) (c : Dev nD), src k (tgt k c) = c := by decide +kernel
theorem tgt_src : ∀ (k : Cp) (c : Dev nD), tgt k (src k c) = c := by decide +kernel
theorem peer_via : ∀ (k : Cp) (c : Dev nD), peer (via k c) c = tgt k c := by decide +kernel
theorem peer_opp : ∀ (s : Fin 5) (c : Dev nD), peer (opp s) (peer s c) = c := by decide +kernel
theorem peer_opp' : ∀ (s : Fin 5) (c : Dev nD), peer s (peer (opp s) c) = c := by decide +kernel
theorem peer_inj : ∀ (s s' : Fin 5) (c : Dev nD), peer s c = peer s' c → s = s' := by decide +kernel
theorem opp_opp : ∀ s : Fin 5, opp (opp s) = s := by decide
theorem sid_inj : ∀ k k' : Cp, sid k = sid k' → k = k' := by decide +kernel
theorem rank_inj : ∀ k k' : Cp, rank k = rank k' → k = k' := by decide +kernel

end Cert.Silu

end
-- ==== Proof.Ops.lean ====
/-
The operations the kernel's body is made of, each at the place where the program uses it: the product of a block of rows,
a copy started, a copy finished (its send and then its receive waited for), a block increased by what came in, and the
activation of a block. A program is written as the list of its statements.
-/
module

public import proofs.«01_k».proof.Proof.Topo

@[expose] public section

set_option backward.proofsInPublic true

noncomputable section

namespace Cert.Silu

open Cert.KernelIdeal Cert.KernelIdeal.Gen
open Idealize.ShloMosaic Idealize.ShloMosaic.TcCoe Idealize.SL.Sem

variable {F : FTy → Type} [FloatOps F]

/-- A program of the body. -/
abbrev PE (F : FTy → Type) [FloatOps F] : Type 1 := Prog (TpuEff nD τ sig (Elt F) Λ₀ .tc) PUnit

/-- The statements of a list, one after the other. -/
def seqL : List (PE F) → PE F
  | [] => .ret ⟨⟩
  | p :: l => p.bind fun _ => seqL l

/-! ## The buffers -/

abbrev aM : Memref sig .tc .vmem S1024x512 .f32 := Memref.whole cc0_stg0_0
abbrev bM : Memref sig .tc .vmem S512x1024 .f32 := Memref.whole cc0_stg1_0
abbrev oM : Memref sig .tc .vmem S1024x1024 .bf16 := Memref.whole cc0_stg2_0
abbrev wM : Memref sig .tc .vmem S512x1024 .bf16 := Memref.whole cc0_scratch0
abbrev zM : Memref sig .tc .vmem S1024x1024 .bf16 := Memref.whole cc0_scratch1
/-- The six landing slots of a half, and its two exchange buffers. -/
abbrev cM (h : Fin 2) : Memref sig .tc .vmem S6x64x1024 .bf16 :=
  match h with | 0 => Memref.whole cc0_scratch2 | 1 => Memref.whole cc0_scratch3
abbrev m1M (h : Fin 2) : Memref sig .tc .vmem S64x1024 .bf16 :=
  match h with | 0 => Memref.whole cc0_scratch4 | 1 => Memref.whole cc0_scratch6
abbrev m2M (h : Fin 2) : Memref sig .tc .vmem S64x1024 .bf16 :=
  match h with | 0 => Memref.whole cc0_scratch5 | 1 => Memref.whole cc0_scratch7

theorem whole_cM (h : Fin 2) : (cM h).IsWhole := by
  match h with | 0 => exact Memref.isWhole_whole _ | 1 => exact Memref.isWhole_whole _
theorem whole_m1M (h : Fin 2) : (m1M h).IsWhole := by
  match h with | 0 => exact Memref.isWhole_whole _ | 1 => exact Memref.isWhole_whole _
theorem whole_m2M (h : Fin 2) : (m2M h).IsWhole := by
  match h with | 0 => exact Memref.isWhole_whole _ | 1 => exact Memref.isWhole_whole _

/-- The rows `o` of a buffer of 1024 by 1024: a block of 64. -/
abbrev rows (o : Fin 2 → ℕ) (h : ∀ a, o a + S64x1024.size a ≤ S1024x1024.size a) : Rect S1024x1024 :=
  Rect.unit (s := S1024x1024) o S64x1024.size h
/-- Such a block of the partial results and of the result. -/
abbrev zAt (o : Fin 2 → ℕ) (h : ∀ a, o a + S64x1024.size a ≤ S1024x1024.size a) : Memref sig .tc .vmem S64x1024 .bf16 :=
  zM.slice (rows o h) (fun _ => rfl)
abbrev oAt (o : Fin 2 → ℕ) (h : ∀ a, o a + S64x1024.size a ≤ S1024x1024.size a) : Memref sig .tc .vmem S64x1024 .bf16 :=
  oM.slice (rows o h) (fun _ => rfl)
theorem zAt_exact (o : Fin 2 → ℕ) (h : ∀ a, o a + S64x1024.size a ≤ S1024x1024.size a)
    (hw : (rows o h).WholeWords (EltTy.packing .bf16)) : (zAt o h).view.WordExact := (Memref.isWhole_whole _).wordExact_slice rfl _ hw
theorem oAt_exact (o : Fin 2 → ℕ) (h : ∀ a, o a + S64x1024.size a ≤ S1024x1024.size a)
    (hw : (rows o h).WholeWords (EltTy.packing .bf16)) : (oAt o h).view.WordExact := (Memref.isWhole_whole _).wordExact_slice rfl _ hw
/-- The place of a landing slot. -/
abbrev slotRect (i : Fin 6) (h : ∀ a, (![i.val, 0, 0] : Fin 3 → ℕ) a + S1x64x1024.size a ≤ S6x64x1024.size a) : Rect S6x64x1024 :=
  Rect.unit (s := S6x64x1024) ![i.val, 0, 0] S1x64x1024.size h
theorem slot_inb : ∀ (i : Fin 6) (a : Fin 3), (![i.val, 0, 0] : Fin 3 → ℕ) a + S1x64x1024.size a ≤ S6x64x1024.size a := by
  decide +kernel
theorem slot_words : ∀ i : Fin 6, (slotRect i (slot_inb i)).WholeWords (EltTy.packing .bf16) := by decide +kernel
abbrev slot (h : Fin 2) (i : Fin 6) : Memref sig .tc .vmem S64x1024 .bf16 :=
  ((cM h).slice (slotRect i (slot_inb i)) (fun _ => rfl)).squeeze S64x1024 squeezes_S1x64x1024_S64x1024
theorem slot_exact (h : Fin 2) (i : Fin 6) : (slot h i).view.WordExact :=
  ((whole_cM h).wordExact_slice rfl _ (slot_words i)).reshape _ _

/-! ## The semaphores -/

/-- The send and the receive semaphore numbered `n`. -/
def sSem (n : Fin 64) : DmaSem sig := ⟨3 + n.val, show _ < 131 by omega⟩
def rSem (n : Fin 64) : DmaSem sig := ⟨67 + n.val, show _ < 131 by omega⟩
/-- The runtime's barrier semaphore. -/
abbrev barS : Sem sig := (SemArray.scalar (sig.barrier 0 rfl) : Sems sig S_).sem

/-! ## The statements, at given offsets -/

def mmAt (o o' : Fin 2 → ℕ) (h : ∀ a, o a + S64x512.size a ≤ S1024x512.size a)
    (h' : ∀ a, o' a + S64x1024.size a ≤ S1024x1024.size a) (hp : (rows o' h').PackedRows (EltTy.packing .bf16)) : PE F := do
  let v : Vec F S64x512 .f32 ← Prog.lift (.load aM (Rect.unit (s := S1024x512) o S64x512.size h).toLoadRect (View.loadsAt_vmem h_S64x512))
  let w : Vec F S512x1024 .bf16 ← Prog.lift (.load wM (Rect.unit (s := S512x1024) ![0, 0] S512x1024.size inb_S512x1024_S512x1024_0_0).toLoadRect (View.loadsAt_vmem h_S512x1024))
  let _ : Vec F S64x1024 .bf16 ← Prog.lift (.load zM (rows o' h').toLoadRect (View.loadsAt_vmem h_S64x1024))
  Prog.lift (.store zM (rows o' h') (k0_pay2 v w) Finset.univ
    (View.stores_vmem h_S64x1024 ((Memref.isWhole_whole _).storeExact_slice rfl _ hp) (fun _ => rfl)) (.inl rfl))

def sendAt (s t : Memref sig .tc .vmem S64x1024 .bf16) (d : Dev nD) (a b : DmaSem sig)
    (hs : s.view.WordExact) (ht : t.view.WordExact) : PE F :=
  Prog.lift (.enqueueDma s (.remote (Dev.tc d) t (.dma a)) (.dma b) hs ht ⟨⟨rfl, Or.inl rfl⟩, trivial⟩)

def finAt (s t : Memref sig .tc .vmem S64x1024 .bf16) (a b : DmaSem sig)
    (hs : s.view.WordExact) (ht : t.view.WordExact) : PE F := do
  Prog.lift (.waitDma2 a t s ht hs)
  Prog.lift (.waitDma2 b s t hs ht)

def accAt (o : Fin 2 → ℕ) (h : ∀ a, o a + S64x1024.size a ≤ S1024x1024.size a) (hp : (rows o h).PackedRows (EltTy.packing .bf16))
    (g : Fin 2) (i : Fin 6) : PE F := do
  let v : Vec F S64x1024 .bf16 ← Prog.lift (.load zM (rows o h).toLoadRect (View.loadsAt_vmem h_S64x1024))
  let w : Vec F S1x64x1024 .bf16 ← Prog.lift (.load (cM g) (slotRect i (slot_inb i)).toLoadRect (View.loadsAt_vmem h_S1x64x1024))
  let _ : Vec F S64x1024 .bf16 ← Prog.lift (.load zM (rows o h).toLoadRect (View.loadsAt_vmem h_S64x1024))
  Prog.lift (.store zM (rows o h) (k0_pay22 v w) Finset.univ
    (View.stores_vmem h_S64x1024 ((Memref.isWhole_whole _).storeExact_slice rfl _ hp) (fun _ => rfl)) (.inl rfl))

def accMAt (o : Fin 2 → ℕ) (h : ∀ a, o a + S64x1024.size a ≤ S1024x1024.size a) (hp : (rows o h).PackedRows (EltTy.packing .bf16))
    (t : Memref sig .tc .vmem S64x1024 .bf16) : PE F := do
  let v : Vec F S64x1024 .bf16 ← Prog.lift (.load zM (rows o h).toLoadRect (View.loadsAt_vmem h_S64x1024))
  let w : Vec F S64x1024 .bf16 ← Prog.lift (.load t (Rect.unit (s := S64x1024) ![0, 0] S64x1024.size inb_S64x1024_S64x1024_0_0).toLoadRect (View.loadsAt_vmem h_S64x1024))
  let _ : Vec F S64x1024 .bf16 ← Prog.lift (.load zM (rows o h).toLoadRect (View.loadsAt_vmem h_S64x1024))
  Prog.lift (.store zM (rows o h) (k0_pay35 v w) Finset.univ
    (View.stores_vmem h_S64x1024 ((Memref.isWhole_whole _).storeExact_slice rfl _ hp) (fun _ => rfl)) (.inl rfl))

def siluAt (o : Fin 2 → ℕ) (h : ∀ a, o a + S64x1024.size a ≤ S1024x1024.size a) (hp : (rows o h).PackedRows (EltTy.packing .bf16)) : PE F := do
  let v : Vec F S64x1024 .bf16 ← Prog.lift (.load zM (rows o h).toLoadRect (View.loadsAt_vmem h_S64x1024))
  let _ : Vec F S64x1024 .bf16 ← Prog.lift (.load oM (rows o h).toLoadRect (View.loadsAt_vmem h_S64x1024))
  Prog.lift (.store oM (rows o h) (k0_pay39 v) Finset.univ
    (View.stores_vmem h_S64x1024 ((Memref.isWhole_whole _).storeExact_slice rfl _ hp) (fun _ => rfl)) (.inl rfl))

/-- One unit to the barrier of a device, and the wait for the five of one's own. -/
def sigAt (d : Dev nD) : PE F := semSignalWord d barS 1#32
def barAt : PE F := semWaitWord barS 5#32

/-- The second operand rounded, once. -/
def castB : PE F := do
  let v : Vec F S512x1024 .f32 ← Prog.lift (.load bM (Rect.unit (s := S512x1024) ![0, 0] S512x1024.size inb_S512x1024_S512x1024_0_0).toLoadRect (View.loadsAt_vmem h_S512x1024))
  let _ : Vec F S512x1024 .bf16 ← Prog.lift (.load wM (Rect.unit (s := S512x1024) ![0, 0] S512x1024.size inb_S512x1024_S512x1024_0_0).toLoadRect (View.loadsAt_vmem h_S512x1024))
  Prog.lift (.store wM (Rect.unit (s := S512x1024) ![0, 0] S512x1024.size inb_S512x1024_S512x1024_0_0) (k0_pay1 v) Finset.univ
    (View.stores_vmem h_S512x1024 ((Memref.isWhole_whole _).storeExact_slice rfl _ packedbf16_S512x1024_S512x1024_0_0) (fun _ => rfl)) (.inl rfl))

/-! ## The same at a block and at a copy -/

theorem blk_inbA : ∀ (b : Blk) (a : Fin 2), rowOff b a + S64x512.size a ≤ S1024x512.size a := by decide +kernel
theorem blk_inb : ∀ (b : Blk) (a : Fin 2), rowOff b a + S64x1024.size a ≤ S1024x1024.size a := by decide +kernel
theorem blk_packed : ∀ b : Blk, (rows (rowOff b) (blk_inb b)).PackedRows (EltTy.packing .bf16) := by decide +kernel
theorem blk_words : ∀ b : Blk, (rows (rowOff b) (blk_inb b)).WholeWords (EltTy.packing .bf16) := by decide +kernel

/-- The rectangle of a block, and the block of each of the two buffers of the whole result. -/
abbrev blkRect (b : Blk) : Rect S1024x1024 := rows (rowOff b) (blk_inb b)
abbrev zS (b : Blk) : Memref sig .tc .vmem S64x1024 .bf16 := zAt (rowOff b) (blk_inb b)
abbrev oS (b : Blk) : Memref sig .tc .vmem S64x1024 .bf16 := oAt (rowOff b) (blk_inb b)
theorem zS_exact (b : Blk) : (zS b).view.WordExact := (Memref.isWhole_whole _).wordExact_slice rfl _ (blk_words b)
theorem oS_exact (b : Blk) : (oS b).view.WordExact := (Memref.isWhole_whole _).wordExact_slice rfl _ (blk_words b)

/-- What copy `k` of device `c` reads, and where it lands. -/
def srcM (k : Cp) (c : Dev nD) : Memref sig .tc .vmem S64x1024 .bf16 :=
  if k.2.val < 8 then zS (srcBlk k c) else oS (srcBlk k c)
def dstM (k : Cp) (c : Dev nD) : Memref sig .tc .vmem S64x1024 .bf16 :=
  if h : k.2.val < 6 then slot k.1 ⟨k.2.val, h⟩
  else if k.2.val = 6 then m1M k.1 else if k.2.val = 7 then m2M k.1 else oS (srcBlk k c)
theorem srcM_exact (k : Cp) (c : Dev nD) : (srcM k c).view.WordExact := by
  unfold srcM; split
  · exact zS_exact _
  · exact oS_exact _
theorem dstM_exact (k : Cp) (c : Dev nD) : (dstM k c).view.WordExact := by
  unfold dstM; split
  · exact slot_exact _ _
  · split
    · exact (whole_m1M _).wordExact
    · split
      · exact (whole_m2M _).wordExact
      · exact oS_exact _

def mm (b : Blk) : PE F := mmAt (rowOff b) (rowOff b) (blk_inbA b) (blk_inb b) (blk_packed b)
def send (k : Cp) (c : Dev nD) : PE F :=
  sendAt (srcM k c) (dstM k c) (tgt k c) (sSem (sid k)) (rSem (sid k)) (srcM_exact k c) (dstM_exact k c)
def fin (k : Cp) (c : Dev nD) : PE F :=
  finAt (srcM k c) (dstM k c) (sSem (sid k)) (rSem (sid k)) (srcM_exact k c) (dstM_exact k c)
def acc (b : Blk) (g : Fin 2) (i : Fin 6) : PE F := accAt (rowOff b) (blk_inb b) (blk_packed b) g i
def accM (b : Blk) (t : Memref sig .tc .vmem S64x1024 .bf16) : PE F := accMAt (rowOff b) (blk_inb b) (blk_packed b) t
def silu (b : Blk) : PE F := siluAt (rowOff b) (blk_inb b) (blk_packed b)

end Cert.Silu

end
-- ==== Proof.Values.lean ====
/-
What the devices hold as the kernel runs, from the two operands each starts with: the partial product of a block, the
sums travelling to the right and to the left round a ring, the sums of the exchanges, and the result.
-/
module

public import proofs.«01_k».proof.Proof.Ops

@[expose] public section

set_option backward.proofsInPublic true

noncomputable section

namespace Cert.Silu

open Cert.KernelIdeal Cert.KernelIdeal.Gen
open Idealize.ShloMosaic Idealize.ShloMosaic.TcCoe

variable {F : FTy → Type} [FloatOps F]

/-! ## The torus -/

theorem right_left : ∀ (h : Fin 2) (c : Dev nD), right h (left h c) = c := by decide +kernel
theorem left_right : ∀ (h : Fin 2) (c : Dev nD), left h (right h c) = c := by decide +kernel
theorem near_near : ∀ (h : Fin 2) (c : Dev nD), near h (near h c) = c := by decide +kernel
theorem far_far : ∀ (h : Fin 2) (c : Dev nD), far h (far h c) = c := by decide +kernel
theorem pos_left : ∀ (h : Fin 2) (c : Dev nD), pos h (left h c) = pos h c + 3 := by decide +kernel
theorem pos_right : ∀ (h : Fin 2) (c : Dev nD), pos h (right h c) = pos h c + 1 := by decide +kernel
theorem pos_near : ∀ (h : Fin 2) (c : Dev nD), pos h (near h c) = pos h c := by decide +kernel
theorem pos_far : ∀ (h : Fin 2) (c : Dev nD), pos h (far h c) = pos h c := by decide +kernel
theorem bit_near : ∀ (h : Fin 2) (c : Dev nD), bit h (near h c) = 1 - bit h c := by decide +kernel
theorem bit_far : ∀ (h : Fin 2) (c : Dev nD), bit h (far h c) = bit h c := by decide +kernel

/-! ## The partial products and the sums -/

/-- A block of 64 rows of an array of 1024. -/
abbrev vB (F : FTy → Type) : Type := Vec F S64x1024 .bf16

/-- The rows of a block of the first operand. -/
abbrev blkRectA (b : Blk) : Rect S1024x512 := Rect.unit (s := S1024x512) (rowOff b) S64x512.size (blk_inbA b)

section
variable (A : Dev nD → Vec F S1024x512 .f32) (B : Dev nD → Vec F S512x1024 .f32)

/-- The partial product of a block on a device, rounded. -/
def part (c : Dev nD) (b : Blk) : vB F := k0_pay2 (fun i => A c ((blkRectA b).emb i)) (k0_pay1 (B c))

/-- The chunk, counted from the device's position, the sum of a round is in: going right and going left. -/
def jR : ℕ → Fin 4 | 0 => 0 | 1 => 3 | 2 => 2 | _ => 1
def jL : ℕ → Fin 4 | 0 => 2 | 1 => 3 | 2 => 0 | _ => 1

/-- The sum of `s + 1` partial products gathered going right, and going left. -/
def accR (h : Fin 2) (c : Dev nD) : ℕ → vB F
  | 0 => part A B c (blkAt h (jR 0) 0 c)
  | s + 1 => k0_pay35 (part A B c (blkAt h (jR (s + 1)) 0 c)) (accR h (left h c) s)
def accL (h : Fin 2) (c : Dev nD) : ℕ → vB F
  | 0 => part A B c (blkAt h (jL 0) 1 c)
  | s + 1 => k0_pay35 (part A B c (blkAt h (jL (s + 1)) 1 c)) (accL h (right h c) s)

/-- The two blocks summed over the ring, the kept one after the exchange with the near partner and with the far one, and
    the result of the block. -/
def ringSum (h : Fin 2) (c : Dev nD) (u : Fin 2) : vB F := if u = 0 then accR A B h c 3 else accL A B h c 3
def nearSum (h : Fin 2) (c : Dev nD) : vB F := k0_pay35 (ringSum A B h c (bit h c)) (ringSum A B h (near h c) (bit h c))
def farSum (h : Fin 2) (c : Dev nD) : vB F := k0_pay35 (nearSum A B h c) (nearSum A B h (far h c))
def res (h : Fin 2) (c : Dev nD) : vB F := k0_pay39 (farSum A B h c)
/-- The result's two blocks of a device's own chunk. -/
def own (h : Fin 2) (c : Dev nD) (u : Fin 2) : vB F := if u = bit h c then res A B h c else res A B h (near h c)

/-- What copy `k` of device `c` carries. -/
def val (k : Cp) (c : Dev nD) : vB F :=
  match k.2.val with
  | 0 => accR A B k.1 c 0
  | 2 => accR A B k.1 c 1
  | 4 => accR A B k.1 c 2
  | 1 => accL A B k.1 c 0
  | 3 => accL A B k.1 c 1
  | 5 => accL A B k.1 c 2
  | 6 => ringSum A B k.1 c (1 - bit k.1 c)
  | 7 => nearSum A B k.1 c
  | 8 => res A B k.1 c
  | 9 => own A B k.1 c 0
  | 10 => own A B k.1 c 1
  | 11 => own A B k.1 (left k.1 c) 0
  | 12 => own A B k.1 (right k.1 c) 1
  | 13 => own A B k.1 (left k.1 (left k.1 c)) 0
  | _ => own A B k.1 (right k.1 (right k.1 c)) 1

/-- The result on device `c` of the block `u` of the chunk `j` past its position. -/
def outJ (h : Fin 2) (c : Dev nD) (j : Fin 4) (u : Fin 2) : vB F :=
  if u = 0 then own A B h (match j with | 1 => c | 0 => left h c | 3 => left h (left h c) | 2 => left h (left h (left h c))) 0
  else own A B h (match j with | 1 => c | 2 => right h c | 3 => right h (right h c) | 0 => right h (right h (right h c))) 1

/-- The result on device `c`, by blocks and as one array. -/
def outB (c : Dev nD) (b : Blk) : vB F := outJ A B b.1 c (b.2.1 - pos b.1 c) b.2.2

end

/-! ## Blocks of the rows -/

/-- The block a row of the result is in, and where in it. -/
def blkOf (i : S1024x1024.Idx) : Blk :=
  (⟨(i 0).val / 512, by have h : (i 0).val < 1024 := (i 0).isLt; omega⟩, ⟨(i 0).val / 128 % 4, by omega⟩, ⟨(i 0).val / 64 % 2, by omega⟩)
def inBlk (i : S1024x1024.Idx) : S64x1024.Idx :=
  fun a => match a with
    | 0 => ⟨(i 0).val % 64, show _ < 64 by omega⟩
    | 1 => ⟨(i 1).val, show _ < 1024 from (i 1).isLt⟩

/-- An array of 1024 rows from its blocks. -/
def ofBlks {α : Type} (f : Blk → S64x1024.Idx → α) : S1024x1024.Idx → α := fun i => f (blkOf i) (inBlk i)

theorem blkRect_emb0 (b : Blk) (i : S64x1024.Idx) :
    (((blkRect b).emb i) 0).val = 512 * b.1.val + 128 * b.2.1.val + 64 * b.2.2.val + (i 0).val := by
  have h : (((blkRect b).emb i) 0).val = rowOff b 0 + 1 * (i 0).val := Rect.emb_apply _ _ _
  rw [h]; simp [rowOff]
theorem blkRect_emb1 (b : Blk) (i : S64x1024.Idx) : (((blkRect b).emb i) 1).val = (i 1).val := by
  have h : (((blkRect b).emb i) 1).val = rowOff b 1 + 1 * (i 1).val := Rect.emb_apply _ _ _
  rw [h]; simp [rowOff]

theorem blkOf_emb (b : Blk) (i : S64x1024.Idx) : blkOf ((blkRect b).emb i) = b := by
  obtain ⟨h, j, u⟩ := b
  have h0 := blkRect_emb0 (h, j, u) i
  have hi : (i 0).val < 64 := (i 0).isLt
  have hh := h.isLt; have hj := j.isLt; have hu := u.isLt
  simp only at h0
  unfold blkOf
  refine Prod.ext (Fin.ext ?_) (Prod.ext (Fin.ext ?_) (Fin.ext ?_)) <;> simp only [h0] <;> omega
theorem inBlk_emb (b : Blk) (i : S64x1024.Idx) : inBlk ((blkRect b).emb i) = i := by
  obtain ⟨h, j, u⟩ := b
  have h0 := blkRect_emb0 (h, j, u) i
  have h1 := blkRect_emb1 (h, j, u) i
  have hi : (i 0).val < 64 := (i 0).isLt
  simp only at h0
  refine funext fun a => Fin.ext ?_
  match a with
  | 0 => show (((blkRect (h, j, u)).emb i) 0).val % 64 = _; rw [h0]; omega
  | 1 => exact h1
theorem emb_inBlk (i : S1024x1024.Idx) : (blkRect (blkOf i)).emb (inBlk i) = i := by
  have hi : (i 0).val < 1024 := (i 0).isLt
  refine funext fun a => Fin.ext ?_
  match a with
  | 0 => rw [blkRect_emb0]; show 512 * ((i 0).val / 512) + 128 * ((i 0).val / 128 % 4) + 64 * ((i 0).val / 64 % 2) + (i 0).val % 64 = _; omega
  | 1 => rw [blkRect_emb1]; rfl

/-- The array from its blocks reads each of them. -/
theorem ofBlks_emb {α : Type} (f : Blk → S64x1024.Idx → α) (b : Blk) (i : S64x1024.Idx) : ofBlks f ((blkRect b).emb i) = f b i := by
  unfold ofBlks; rw [blkOf_emb, inBlk_emb]

/-- The blocks are disjoint and cover the array. -/
theorem blk_disjoint (b b' : Blk) (h : b ≠ b') : Disjoint (blkRect b).set (blkRect b').set := by
  rw [Finset.disjoint_left]
  intro x hx hx'
  rw [← Rect.map_emb_univ, Finset.mem_map] at hx hx'
  obtain ⟨i, -, rfl⟩ := hx
  obtain ⟨i', -, e⟩ := hx'
  exact h (by rw [← blkOf_emb b i, ← blkOf_emb b' i', e])
theorem blk_cover : (Finset.univ : Finset Blk).biUnion (fun b => (blkRect b).set) = Finset.univ := by
  refine Finset.eq_univ_of_forall fun i => Finset.mem_biUnion.mpr ⟨blkOf i, Finset.mem_univ _, ?_⟩
  rw [← Rect.map_emb_univ, Finset.mem_map]
  exact ⟨inBlk i, Finset.mem_univ _, emb_inBlk i⟩

end Cert.Silu

end
-- ==== Proof.Sched.lean ====
/-
The protocol between the devices. Every device has a barrier cell, and for each of its thirty copies a send cell and a
receive cell. A peer's signal hands over the landings of the copies that will come to it; a finished send hands the
source back, a finished receive hands over the landing with what came in.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: those of the staging, and the protocol's, whose duties are named by the five peers -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The cells of a device: its barrier, its copies' sends and their receives. -/
abbrev Cl : Type := Option (Cp ⊕ Cp)
def csem : Cl → SemLoc sig
  | none => .reg barS
  | some (.inl k) => .dma (sSem (sid k))
  | some (.inr k) => .dma (rSem (sid k))
abbrev cell (c : Dev nD) (x : Cl) : GSem nD τ sig := ((c : Thread nD τ), csem x)
abbrev barC (c : Dev nD) : GSem nD τ sig := cell c none
abbrev sndC (c : Dev nD) (k : Cp) : GSem nD τ sig := cell c (some (.inl k))
abbrev rcvC (c : Dev nD) (k : Cp) : GSem nD τ sig := cell c (some (.inr k))

theorem csem_inj : Function.Injective csem := by
  intro x y h
  match x, y, h with
  | none, none, _ => rfl
  | some (.inl k), some (.inl k'), h =>
    have : sSem (sid k) = sSem (sid k') := by injection h
    have h' := congrArg Fin.val this
    simp only [sSem] at h'
    rw [sid_inj k k' (Fin.ext (by omega))]
  | some (.inr k), some (.inr k'), h =>
    have : rSem (sid k) = rSem (sid k') := by injection h
    have h' := congrArg Fin.val this
    simp only [rSem] at h'
    rw [sid_inj k k' (Fin.ext (by omega))]
  | some (.inl k), some (.inr k'), h =>
    have : sSem (sid k) = rSem (sid k') := by injection h
    have h' := congrArg Fin.val this
    have h1 := (sid k).isLt
    simp only [sSem, rSem] at h'
    omega
  | some (.inr k), some (.inl k'), h =>
    have : rSem (sid k) = sSem (sid k') := by injection h
    have h' := congrArg Fin.val this
    have h1 := (sid k').isLt
    simp only [sSem, rSem] at h'
    omega
theorem cell_inj {c c' : Dev nD} {x x' : Cl} (h : cell c x = cell c' x') : c = c' ∧ x = x' :=
  ⟨congrArg (fun g : GSem nD τ sig => g.1.1) h, csem_inj (congrArg Prod.snd h)⟩

open Classical in
/-- The cell a semaphore is of. -/
def cellAt (s : SemLoc sig) : Option Cl := if h : ∃ x, csem x = s then some h.choose else none
theorem cellAt_csem (x : Cl) : cellAt (csem x) = some x := by
  have h : ∃ y, csem y = csem x := ⟨x, rfl⟩
  unfold cellAt; rw [dif_pos h, csem_inj h.choose_spec]

/-- What a transfer of a block credits. -/
abbrev N : ℕ := (zM.slice (blkRect (0, 0, 0)) (fun _ => rfl) : Memref sig .tc .vmem S64x1024 .bf16).view.dmaCredit
theorem N_pos : 0 < N := View.dmaCredit_pos _ (by decide)
theorem credit_src (k : Cp) (c : Dev nD) : (srcM k c).view.dmaCredit = N := by
  unfold srcM; split <;> rfl
theorem credit_dst (k : Cp) (c : Dev nD) : (dstM k c).view.dmaCredit = N := by
  have hc : ∀ h i, (slot h i).view.dmaCredit = N := fun h i => by
    match h with | 0 => rfl | 1 => rfl
  have h1 : ∀ h, (m1M h).view.dmaCredit = N := fun h => by
    match h with | 0 => rfl | 1 => rfl
  have h2 : ∀ h, (m2M h).view.dmaCredit = N := fun h => by
    match h with | 0 => rfl | 1 => rfl
  unfold dstM
  split
  · exact hc _ _
  · split
    · exact h1 _
    · split
      · exact h2 _
      · rfl

/-! ## The schedule -/

/-- A memref of a block, at any contents and at given ones. -/
def holds (c : Dev nD) (s : Memref sig .tc .vmem S64x1024 .bf16) (X : vB F) : sProp 𝕄 :=
  owns (Ix := Unit) (Name := ℕ) (U := UU) (Lvl := ℕ) (c : Thread nD τ) s fullShare X
def some' (c : Dev nD) (s : Memref sig .tc .vmem S64x1024 .bf16) : sProp 𝕄 := iprop(∃ X, holds (F := F) c s X)

instance holds_storable (c : Dev nD) (s) (X : vB F) : BI.Storable (upEmb : UEmb _ 𝕄) (holds c s X) := by unfold holds; infer_instance
instance some_storable (c : Dev nD) (s) : BI.Storable (upEmb : UEmb _ 𝕄) (some' (F := F) c s) := by unfold some'; infer_instance

/-- The landing of copy `k` of device `c`. -/
abbrev land (k : Cp) (c : Dev nD) : sProp 𝕄 := some' (F := F) (tgt k c) (dstM k c)

section
variable (A : Dev nD → Vec F S1024x512 .f32) (B : Dev nD → Vec F S512x1024 .f32)

/-- What the units of a duty hand the device the cell is of. -/
def pay (c : Dev nD) : Cl → Fin 5 → sProp 𝕄
  | none, d => bigSep (Finset.univ.filter fun k => via k c = d) fun k => land (F := F) k c
  | some (.inl k), _ => holds c (srcM k c) (val A B k c)
  | some (.inr k), _ => holds c (dstM k (src k c)) (val A B k (src k c))

instance pay_storable (c : Dev nD) (x : Cl) (d : Fin 5) : BI.Storable (upEmb : UEmb _ 𝕄) (pay A B c x d) := by
  match x with
  | none => unfold pay; infer_instance
  | some (.inl k) => unfold pay; infer_instance
  | some (.inr k) => unfold pay; infer_instance

/-- One round: five duties of a unit at a barrier cell, one of a block's credit at a send or receive cell. -/
def Rd : Rounds.Schedule (GSem nD τ sig) (Fin 5) 𝕄 where
  duties g r := if r = 0 ∧ g.1.2 = .tc then (match cellAt g.2 with | none => ∅ | some none => Finset.univ | some (some _) => {0}) else ∅
  unitless _ := False
  amount g _ _ := match cellAt g.2 with | some none => 1 | _ => N
  payload g _ d := match cellAt g.2 with | none => iprop(emp) | some x => pay A B g.1.1 x d
  amount_pos g _ _ _ := by
    split
    · exact Nat.one_pos
    · exact N_pos

instance Rd_payload_storable (g : GSem nD τ sig) (r : ℕ) (d : Fin 5) : BI.Storable (upEmb : UEmb _ 𝕄) ((Rd A B).payload g r d) := by
  show BI.Storable upEmb (match cellAt g.2 with | none => iprop(emp) | some x => pay A B g.1.1 x d)
  split <;> infer_instance

theorem duties_bar (c : Dev nD) : (Rd A B).duties (barC c) 0 = Finset.univ := by
  dsimp only [Rd]; rw [if_pos ⟨rfl, rfl⟩, cellAt_csem]
theorem duties_cp (c : Dev nD) (x : Cp ⊕ Cp) : (Rd A B).duties (cell c (some x)) 0 = {0} := by
  dsimp only [Rd]; rw [if_pos ⟨rfl, rfl⟩, cellAt_csem]
theorem duties_later (g : GSem nD τ sig) : ∀ r, 1 ≤ r → (Rd A B).duties g r = ∅ :=
  fun r hr => by dsimp only [Rd]; rw [if_neg fun h => by omega]
theorem amount_bar (c : Dev nD) (d : Fin 5) : (Rd A B).amount (barC c) 0 d = 1 := by dsimp only [Rd]; rw [cellAt_csem]
theorem amount_cp (c : Dev nD) (x : Cp ⊕ Cp) (d : Fin 5) : (Rd A B).amount (cell c (some x)) 0 d = N := by dsimp only [Rd]; rw [cellAt_csem]
theorem payload_at (c : Dev nD) (x : Cl) (d : Fin 5) : (Rd A B).payload (cell c x) 0 d = pay A B c x d := by dsimp only [Rd]; rw [cellAt_csem]
theorem expect_bar (c : Dev nD) : (Rd A B).expect (barC c) 0 = 5 := by
  unfold Schedule.expect Schedule.amountOf
  rw [duties_bar, Finset.sum_congr rfl fun d _ => amount_bar A B c d]; rfl
theorem expect_cp (c : Dev nD) (x : Cp ⊕ Cp) : (Rd A B).expect (cell c (some x)) 0 = N := by
  unfold Schedule.expect Schedule.amountOf; rw [duties_cp, Finset.sum_singleton, amount_cp]
/-- The payloads of a round that is over: a copy's, and a barrier's, which are all thirty landings. -/
theorem rest_cp (c : Dev nD) (x : Cp ⊕ Cp) :
    bigSep ((Rd A B).duties (cell c (some x)) 0 \ ∅) (fun d => (Rd A B).payload (cell c (some x)) 0 d) = pay A B c (some x) 0 := by
  rw [Finset.sdiff_empty, duties_cp, bigSep_singleton, payload_at]
theorem rest_bar (c : Dev nD) :
    bigSep ((Rd A B).duties (barC c) 0 \ ∅) (fun d => (Rd A B).payload (barC c) 0 d)
      = bigSep Finset.univ fun d : Fin 5 => bigSep (Finset.univ.filter fun k => via k c = d) fun k => land (F := F) k c := by
  rw [Finset.sdiff_empty, duties_bar]
  exact bigSep_congr fun d _ => payload_at A B c none d

end

/-! ## What a device owes, and the levels -/

/-- The credit of the copies from place `n` on in the order of issue. -/
def owed (n : ℕ) (c : Dev nD) : CellTallies nD τ sig Unit :=
  ∑ k ∈ (Finset.univ : Finset Cp).filter (fun k => n ≤ rank k), tallyAt (rcvC (tgt k c) k) () N
/-- And the units of the signals yet to be given, besides the credit of all copies. -/
def owedB (c : Dev nD) : List (Fin 5) → CellTallies nD τ sig Unit
  | [] => owed 0 c
  | s :: l => owedB c l + tallyAt (barC (peer s c)) () 1
def owed₀ (c : Dev nD) : CellTallies nD τ sig Unit := owedB c [0, 1, 2, 3, 4]

theorem owed_step (k : Cp) (c : Dev nD) : owed (rank k) c = owed (rank k + 1) c + tallyAt (rcvC (tgt k c) k) () N := by
  unfold owed
  have h : (Finset.univ : Finset Cp).filter (fun k' => rank k ≤ rank k') = insert k ((Finset.univ : Finset Cp).filter (fun k' => rank k + 1 ≤ rank k')) := by
    ext k'
    simp only [Finset.mem_filter, Finset.mem_univ, true_and, Finset.mem_insert]
    constructor
    · intro h
      rcases Nat.lt_or_ge (rank k) (rank k') with h' | h'
      · exact Or.inr h'
      · exact Or.inl (rank_inj _ _ (by omega))
    · rintro (rfl | h)
      · exact le_rfl
      · omega
  rw [h, Finset.sum_insert (by simp), add_comm]
theorem owed_end (c : Dev nD) : owed 30 c = 0 := by
  unfold owed
  rw [Finset.filter_false_of_mem (fun k _ => by
    have h : ∀ k : Cp, rank k < 30 := by decide +kernel
    exact not_le.mpr (h k)), Finset.sum_empty]

theorem owed_pos {n : ℕ} {c : Dev nD} {g : GSem nD τ sig} {u : Unit} (h : 0 < owed n c g u) :
    ∃ k, n ≤ rank k ∧ g = rcvC (tgt k c) k := by
  unfold owed at h
  rw [Finset.sum_apply, Finsupp.finset_sum_apply] at h
  obtain ⟨k, hk, hp⟩ := Finset.exists_ne_zero_of_sum_ne_zero (Nat.pos_iff_ne_zero.mp h)
  refine ⟨k, (Finset.mem_filter.mp hk).2, ?_⟩
  by_contra hn
  rw [tallyAt_apply, if_neg (fun h' => hn h'.1)] at hp
  exact hp rfl
theorem owedB_pos {c : Dev nD} {l : List (Fin 5)} {g : GSem nD τ sig} {u : Unit} (h : 0 < owedB c l g u) :
    (∃ k, g = rcvC (tgt k c) k) ∨ ∃ d, g = barC d := by
  induction l with
  | nil => obtain ⟨k, -, hk⟩ := owed_pos h; exact Or.inl ⟨k, hk⟩
  | cons s l ih =>
    unfold owedB at h
    rw [Pi.add_apply, Finsupp.add_apply, tallyAt_apply] at h
    by_cases hg : g = barC (peer s c)
    · exact Or.inr ⟨_, hg⟩
    · rw [if_neg (fun h' => hg h'.1), Nat.add_zero] at h
      exact ih h

def L (g : GSem nD τ sig) : Finset Unit := if g.1.2 = .tc then {()} else ∅
/-- Barriers at 1, the receives of a round two past the round's number, all else at 0. -/
def lv (g : GSem nD τ sig) (_ : Unit) : ℕ :=
  match cellAt g.2 with | some none => 1 | some (some (.inr k)) => round k + 2 | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by unfold lv; rw [cellAt_csem]
theorem lv_snd (c : Dev nD) (k : Cp) : lv (sndC c k) () = 0 := by unfold lv; rw [cellAt_csem]
theorem lv_rcv (c : Dev nD) (k : Cp) : lv (rcvC c k) () = round k + 2 := by unfold lv; rw [cellAt_csem]

/-- A wait below all a device owes is allowed. -/
theorem mayWait_of (c : Dev nD) (s : SemLoc sig) (O : CellTallies nD τ sig Unit)
    (h : ∀ g u, 0 < O g u → g.1.2 = .tc ∧ lv ((c : Thread nD τ), s) () < lv g ()) :
    (levAts L lv : sProp 𝕄) ⊢ MayWait (c : Thread nD τ) s () O :=
  MayOwe.of_cut (L := L) (lev := lv) (lv ((c : Thread nD τ), s) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.Silu

end
-- ==== Proof.Steps.lean ====
/-
One statement at a time: what a device must hold for it, and what it holds afterwards.
-/
module

public import proofs.«01_k».proof.Proof.Sched

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- From `P`, the statements `l` run and leave `P'`. -/
def Step (c : Dev nD) (P : sProp 𝕄) (l : List (PE F)) (P' : sProp 𝕄) : Prop :=
  ∀ (tl : List (PE F)) (Q : PUnit → sProp 𝕄),
    P ⊢ iprop((P' -∗ wp frame (wpE (defs₀ (F := F)) 𝒱₀ (c : Thread nD τ) none) Set.univ (seqL tl) Q)
      -∗ wp frame (wpE (defs₀ (F := F)) 𝒱₀ (c : Thread nD τ) none) Set.univ (seqL (l ++ tl)) Q)

theorem Step.append {c : Dev nD} {P P' P'' : sProp 𝕄} {l l' : List (PE F)} (h : Step c P l P') (h' : Step c P' l' P'') :
    Step c P (l ++ l') P'' := by
  intro tl Q
  rw [List.append_assoc]
  iintro HP Hk
  iapply (h (l' ++ tl) Q) $$ HP
  iintro HP'
  iapply (h' tl Q) $$ HP'
  iexact Hk
theorem Step.conseq {c : Dev nD} {P₀ P P' P₀' : sProp 𝕄} {l : List (PE F)} (h₀ : P₀ ⊢ P) (h : Step c P l P') (h₁ : P' ⊢ P₀') :
    Step c P₀ l P₀' := by
  intro tl Q
  iintro HP Hk
  ihave HP := h₀ $$ HP
  iapply (h tl Q) $$ HP
  iintro HP'
  iapply Hk
  iapply h₁
  iexact HP'
theorem Step.frame {c : Dev nD} {P P' : sProp 𝕄} {l : List (PE F)} (h : Step c P l P') (R : sProp 𝕄) :
    Step c iprop(P ∗ R) l iprop(P' ∗ R) := by
  intro tl Q
  iintro ⟨HP, HR⟩ Hk
  iapply (h tl Q) $$ HP
  iintro HP'
  iapply Hk
  isplitl [HP'] <;> iassumption

/-! ## What all steps share -/

section
variable (A : Dev nD → Vec F S1024x512 .f32) (B : Dev nD → Vec F S512x1024 .f32)
variable (K : Dev nD × Cl → ℕ)

/-- The cells' invariants, that round 0 is reached everywhere, and the levels. -/
def recs : sProp 𝕄 :=
  iprop((bigSep Finset.univ fun p : Dev nD × Cl => cellInv ER (Rd A B) (K p) (cell p.1 p.2))
    ∗ (bigSep Finset.univ fun p : Dev nD × Cl => reached ER (cell p.1 p.2) 0) ∗ levAts L lv)
instance recs_persistent : BI.Persistent (recs A B K) := by unfold recs; infer_instance
theorem recs_inv (c : Dev nD) (x : Cl) : recs A B K ⊢ cellInv ER (Rd A B) (K (c, x)) (cell c x) := by
  have h : (bigSep Finset.univ fun p : Dev nD × Cl => (cellInv ER (Rd A B) (K p) (cell p.1 p.2) : sProp 𝕄))
      ⊢ cellInv ER (Rd A B) (K (c, x)) (cell c x) := bigSep_elim (Finset.mem_univ (c, x))
  unfold recs
  iintro ⟨#H, -⟩
  iapply h; iexact H
theorem recs_reached (c : Dev nD) (x : Cl) : recs A B K ⊢ reached ER (cell c x) 0 := by
  have h : (bigSep Finset.univ fun p : Dev nD × Cl => (reached ER (cell p.1 p.2) 0 : sProp 𝕄)) ⊢ reached ER (cell c x) 0 :=
    bigSep_elim (Finset.mem_univ (c, x))
  unfold recs
  iintro ⟨-, #H, -⟩
  iapply h; iexact H
theorem recs_lev : recs A B K ⊢ (levAts L lv : sProp 𝕄) := by
  unfold recs
  iintro ⟨-, -, #H⟩
  iexact H

/-- A device owes the copies from place `n` on, and holds the records. -/
def at' (n : ℕ) (c : Dev nD) : sProp 𝕄 := iprop(recs A B K ∗ ∃ W, owes (c : Thread nD τ) (owed n c) W)

end

/-- To finish copy `k`: its two cells at the start and the credit of its receive. To start it besides: the tokens of its
    two duties and its landing. Under way: the credit of its send. Finished: both cells at zero. -/
def wt (k : Cp) (c : Dev nD) : sProp 𝕄 :=
  iprop(atPos ER (sndC c k) 0 ∅ 0 ∗ atPos ER (rcvC c k) 0 ∅ 0 ∗ cred (tallyAt (rcvC c k) () N))
def tok (k : Cp) (c : Dev nD) : sProp 𝕄 := iprop(dutyTok ER (sndC c k) 0 0 ∗ dutyTok ER (rcvC (tgt k c) k) 0 0)
def job (k : Cp) (c : Dev nD) : sProp 𝕄 := iprop(wt (F := F) k c ∗ tok k c ∗ land (F := F) k c)
def fly (k : Cp) (c : Dev nD) : sProp 𝕄 := iprop(wt (F := F) k c ∗ cred (tallyAt (sndC c k) () N))
def gone (k : Cp) (c : Dev nD) : sProp 𝕄 := iprop(semVal (sndC c k) 0 ∗ semVal (rcvC c k) 0)

section
variable (A : Dev nD → Vec F S1024x512 .f32) (B : Dev nD → Vec F S512x1024 .f32)
variable (K : Dev nD × Cl → ℕ)

/-! ## Copies -/

theorem pay_snd (c : Dev nD) (k : Cp) (d : Fin 5) : pay A B c (some (.inl k)) d = holds c (srcM k c) (val A B k c) := rfl
theorem pay_rcv (c : Dev nD) (k : Cp) (d : Fin 5) : pay A B c (some (.inr k)) d = holds c (dstM k (src k c)) (val A B k (src k c)) := rfl

/-- A copy started. -/
theorem step_send (k : Cp) (c : Dev nD) :
    Step c iprop(at' A B K (rank k) c ∗ job k c ∗ holds c (srcM k c) (val A B k c)) [send k c]
      iprop(at' A B K (rank k + 1) c ∗ fly k c) := by
  intro tl Q
  show _ ⊢ iprop(_ -∗ wp _ _ _ (send k c >>= fun _ => seqL tl) Q)
  unfold send sendAt
  simp only [Prog.lift, Prog.bind_op, Prog.bind_ret]
  unfold at' job tok land some' fly
  unfold holds owns
  iintro ⟨⟨#HR, ⟨%W, HO⟩⟩, ⟨Hwt, ⟨Hts, Htr⟩, ⟨%X, ⟨%fd, %hfd, Hd⟩⟩⟩, ⟨%fs, %hfs, Hs⟩⟩ Hk
  ihave #HI1 := (recs_inv A B K c (some (.inl k))) $$ HR
  ihave #HI2 := (recs_inv A B K (tgt k c) (some (.inr k))) $$ HR
  ihave #HR1 := (recs_reached A B K c (some (.inl k))) $$ HR
  ihave #HR2 := (recs_reached A B K (tgt k c) (some (.inr k))) $$ HR
  iapply (Rounds.wp_send_pointsTo 𝒱₀ ER (Rd A B) (c : Thread nD τ) none (c' := (tgt k c : Thread nD τ)) (src := srcM k c) (dst := (dstM k c : Memref sig (Dev.tc (tgt k c) : Thread nD τ).2.kind .vmem S64x1024 .bf16)) (sS := csem (some (.inl k))) (sem := csem (some (.inr k)))
    (κ₁ := K (c, some (.inl k))) (κ₂ := K (tgt k c, some (.inr k)))
    (r₁ := 0) (r₂ := 0) (d₁ := 0) (d₂ := 0) (fd := fd) (fs := fs) (q := fullShare)
    (by rw [duties_cp]; exact Finset.mem_singleton_self _) (by rw [duties_cp]; exact Finset.mem_singleton_self _)
    () () N (credit_dst k c) (amount_cp A B c _ 0) (amount_cp A B (tgt k c) _ 0) (owed (rank k + 1) c) (owed_step k c) (W := W)
    (by
      rw [payload_at, pay_snd]; unfold holds owns
      iintro H; iexists fs; isplitr; · ipureintro; exact hfs
      iexact H)
    (by
      rw [payload_at, pay_rcv, src_tgt]; unfold holds owns
      iintro H; iexists _; isplitr [H]; rotate_left; · iexact H
      ipureintro; rw [View.read_write_univ, hfs])) $$ [HO Hs Hd Hts Htr]
  · isplitr; · iexact HI1
    isplitr; · iexact HI2
    isplitl [Hs]; · iexact Hs
    isplitl [Hd]; · iexact Hd
    isplitl [HO]; · iexact HO
    isplitl [Hts]; · iexact Hts
    isplitr; · iexact HR1
    isplitl [Htr]; · iexact Htr
    iexact HR2
  iintro ⟨Hc, HO⟩
  iapply Hk
  isplitl [HO]
  · isplitr; · iexact HR
    iexists W; iexact HO
  isplitl [Hwt] <;> iassumption

theorem mayWait_snd (n : ℕ) (k : Cp) (c : Dev nD) : recs A B K ⊢ MayWait (c : Thread nD τ) (csem (some (.inl k))) () (owed n c) := by
  refine (recs_lev A B K).trans (mayWait_of c _ _ fun g u hg => ?_)
  obtain ⟨k', -, rfl⟩ := owed_pos hg
  exact ⟨rfl, by rw [lv_snd, lv_rcv]; omega⟩
theorem mayWait_rcv (n : ℕ) (k : Cp) (c : Dev nD) (hn : ∀ k', n ≤ rank k' → round k < round k') :
    recs A B K ⊢ MayWait (c : Thread nD τ) (csem (some (.inr k))) () (owed n c) := by
  refine (recs_lev A B K).trans (mayWait_of c _ _ fun g u hg => ?_)
  obtain ⟨k', hk', rfl⟩ := owed_pos hg
  exact ⟨rfl, by rw [lv_rcv, lv_rcv]; have := hn k' hk'; omega⟩

/-- A copy finished: the source is back, and what came in is there. -/
theorem step_fin (n : ℕ) (k : Cp) (c : Dev nD) (hn : ∀ k', n ≤ rank k' → round k < round k') :
    Step c iprop(at' A B K n c ∗ fly k c) [fin k c]
      iprop(at' A B K n c ∗ gone k c ∗ holds c (srcM k c) (val A B k c) ∗ holds c (dstM k (src k c)) (val A B k (src k c))) := by
  intro tl Q
  show _ ⊢ iprop(_ -∗ wp _ _ _ (fin k c >>= fun _ => seqL tl) Q)
  unfold fin finAt
  simp only [Prog.lift, Prog.bind_op, Prog.bind_ret]
  unfold at' fly wt gone
  iintro ⟨⟨#HR, ⟨%W, HO⟩⟩, ⟨HatS, HatV, HcV⟩, HcS⟩ Hk
  ihave #HI1 := (recs_inv A B K c (some (.inl k))) $$ HR
  ihave #HI2 := (recs_inv A B K c (some (.inr k))) $$ HR
  iapply (Rounds.wp_wait_rest_token 𝒱₀ ER (Rd A B) (c : Thread nD τ) none (κ := K (c, some (.inl k))) (sm := csem (some (.inl k)))
      (wpE_waitDma2_eq 𝒱₀ (c : Thread nD τ) none Set.univ) (Set.mem_univ _) () (O := owed n c) (W := W) (R := 0) (m := 0) (T := ∅)
      (by rw [Nat.zero_add, expect_cp]; exact credit_src k c)) $$ [HcS HO HatS]
  · isplitr; · iexact HI1
    isplitl [HcS]; · rw [credit_src]; iexact HcS
    isplitl [HO]; · iexact HO
    isplitr
    · iapply (mayWait_snd A B K n k c); iexact HR
    iexact HatS
  iintro ⟨HO, HatS, -, Hps⟩
  iapply (Rounds.wp_wait_rest_token 𝒱₀ ER (Rd A B) (c : Thread nD τ) none (κ := K (c, some (.inr k))) (sm := csem (some (.inr k)))
      (wpE_waitDma2_eq 𝒱₀ (c : Thread nD τ) none Set.univ) (Set.mem_univ _) () (O := owed n c) (R := 0) (m := 0) (T := ∅)
      (by rw [Nat.zero_add, expect_cp]; exact credit_dst k c)) $$ [HcV HO HatV]
  · isplitr; · iexact HI2
    isplitl [HcV]; · rw [credit_dst]; iexact HcV
    isplitl [HO]; · iexact HO
    isplitr
    · iapply (mayWait_rcv A B K n k c hn); iexact HR
    iexact HatV
  iintro ⟨HO, HatV, -, Hpv⟩
  ihave Hps := (Entails.of_eq ((rest_cp A B c (.inl k)).trans (pay_snd A B c k 0))) $$ Hps
  ihave Hpv := (Entails.of_eq ((rest_cp A B c (.inr k)).trans (pay_rcv A B c k 0))) $$ Hpv
  imod (Rounds.cell_close ER (Rd A B) (Set.mem_univ (K (c, some (.inl k)))) (fun h => h) (R := 0 + 1) (duties_later A B (sndC c k))) $$ [HatS] with HzS
  · isplitr; · iexact HI1
    iexact HatS
  imod (Rounds.cell_close ER (Rd A B) (Set.mem_univ (K (c, some (.inr k)))) (fun h => h) (R := 0 + 1) (duties_later A B (rcvC c k))) $$ [HatV] with HzV
  · isplitr; · iexact HI2
    iexact HatV
  iapply Hk
  isplitl [HO]
  · isplitr; · iexact HR
    iexists _; iexact HO
  isplitl [HzS HzV]
  · isplitl [HzS] <;> iassumption
  isplitl [Hps] <;> iassumption

end

end Cert.Silu

end
-- ==== Proof.Work.lean ====
/-
The statements that read and write a device's own buffers: loads and stores of blocks held, and from them the product of
a block, a block increased by what came in, and the activation.
-/
module

public import proofs.«01_k».proof.Proof.Steps

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores -/

section
variable (c : Dev nD) {s : Shape} {e : EltTy} (M : Memref sig .tc .vmem s e)

/-- A memref of any shape held whole. -/
def has (X : s.Idx → Elt F e) : sProp 𝕄 := owns (Ix := Unit) (Name := ℕ) (U := UU) (Lvl := ℕ) (c : Thread nD τ) M fullShare X
instance has_storable (X : s.Idx → Elt F e) : BI.Storable (upEmb : UEmb _ 𝕄) (has c M X) := by unfold has; infer_instance

abbrev wpp (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A load of a rectangle of a memref held reads its contents there. -/
theorem load_in (r : Rect s) (X : s.Idx → Elt F e) {hl : M.view.LoadsAt r.toLoadRect} {k : (r.shape.Idx → Elt F e) → PE F} (Q : PUnit → sProp 𝕄) :
    has c M X ⊢ iprop((has c M X -∗ wpp c (k fun i => X (r.emb i)) Q) -∗ wpp c (.op (.load M r.toLoadRect hl) k) Q) := by
  unfold has owns
  iintro ⟨%f, %hf, H⟩ Hk
  subst hf
  iapply (wp_load 𝒱₀ (c : Thread nD τ) none Set.univ (m := M) (r := r.toLoadRect) (f := f) (M.view.setOn_subset_set _)) $$ H
  iintro H
  iapply Hk
  iexists f; isplitr; · ipureintro; rfl
  iexact H

/-- A load of the rectangle held reads what it holds. -/
theorem load_at (r : Rect s) (hr : ∀ a, r.stride a = 1) (X : r.shape.Idx → Elt F e) {hl : M.view.LoadsAt r.toLoadRect} {k : (r.shape.Idx → Elt F e) → PE F}
    (Q : PUnit → sProp 𝕄) :
    has c (M.slice r hr) X ⊢ iprop((has c (M.slice r hr) X -∗ wpp c (k X) Q) -∗ wpp c (.op (.load M r.toLoadRect hl) k) Q) := by
  unfold has owns
  iintro ⟨%f, %hf, H⟩ Hk
  subst hf
  iapply (wp_load_rect 𝒱₀ (c : Thread nD τ) none Set.univ (m := M) (r := r) (f := f) (S := (M.slice r hr).view.set) (Finset.Subset.refl _)) $$ H
  iintro H
  iapply Hk
  iexists f; isplitr; · ipureintro; rfl
  iexact H

/-- A store to the rectangle held leaves what is stored. -/
theorem store_at (r : Rect s) (hr : ∀ a, r.stride a = 1) (X w : r.shape.Idx → Elt F e) {hx : (M.access r).Stores Finset.univ}
    {hm : (Finset.univ : Finset r.shape.Idx) = Finset.univ ∨ ∀ a, r.stride a = 1} {k : PUnit → PE F} (Q : PUnit → sProp 𝕄) :
    has c (M.slice r hr) X ⊢ iprop((has c (M.slice r hr) w -∗ wpp c (k ⟨⟩) Q) -∗ wpp c (.op (.store M r w Finset.univ hx hm) k) Q) := by
  unfold has owns
  iintro ⟨%f, %hf, H⟩ Hk
  iapply (wp_store 𝒱₀ (c : Thread nD τ) none Set.univ (m := M) (r := r) (Mk := Finset.univ) (f := f) (S := (M.slice r hr).view.set) (Finset.Subset.refl _)) $$ H
  iintro H
  iapply Hk
  iexists _; isplitr [H]; rotate_left; · iexact H
  ipureintro; exact View.read_write_univ _ _

end

theorem holds_eq (c : Dev nD) (M : Memref sig .tc .vmem S64x1024 .bf16) (X : vB F) : holds c M X = has c M X := rfl

/-- The rectangle of all rows and columns reads everything. -/
theorem emb_all {s : Shape} {o : Fin s.rank → ℕ} (ho : o = fun _ => 0) (inb : ∀ a, o a + s.size a ≤ s.size a) (i : s.Idx) :
    (Rect.unit o s.size inb).emb i = i := by
  subst ho
  refine funext fun a => Fin.ext ?_
  rw [Rect.emb_apply]; simp
theorem zero2 : (![0, 0] : Fin 2 → ℕ) = fun _ => 0 := funext fun a => by fin_cases a <;> rfl

theorem emb_w (i : S512x1024.Idx) :
    (Rect.unit (s := S512x1024) ![0, 0] S512x1024.size inb_S512x1024_S512x1024_0_0).emb i = i := emb_all zero2 _ i
theorem emb_m (i : S64x1024.Idx) :
    (Rect.unit (s := S64x1024) ![0, 0] S64x1024.size inb_S64x1024_S64x1024_0_0).emb i = i := emb_all zero2 _ i

/-- Loads and the store of whole buffers. -/
theorem load_w (c : Dev nD) (M : Memref sig .tc .vmem S512x1024 .bf16) (X : Vec F S512x1024 .bf16)
    {hl : M.view.LoadsAt (Rect.unit (s := S512x1024) ![0, 0] S512x1024.size inb_S512x1024_S512x1024_0_0).toLoadRect}
    {k : Vec F S512x1024 .bf16 → PE F} (Q : PUnit → sProp 𝕄) :
    has c M X ⊢ iprop((has c M X -∗ wpp c (k X) Q)
      -∗ wpp c (.op (.load M (Rect.unit (s := S512x1024) ![0, 0] S512x1024.size inb_S512x1024_S512x1024_0_0).toLoadRect hl) k) Q) := by
  have e : (fun i => X ((Rect.unit (s := S512x1024) ![0, 0] S512x1024.size inb_S512x1024_S512x1024_0_0).emb i)) = X :=
    funext fun i => congrArg X (emb_w i)
  have h := load_in c M (Rect.unit (s := S512x1024) ![0, 0] S512x1024.size inb_S512x1024_S512x1024_0_0) X (hl := hl) (k := k) Q
  rw [e] at h
  exact h
theorem load_m (c : Dev nD) (M : Memref sig .tc .vmem S64x1024 .bf16) (X : vB F)
    {hl : M.view.LoadsAt (Rect.unit (s := S64x1024) ![0, 0] S64x1024.size inb_S64x1024_S64x1024_0_0).toLoadRect}
    {k : vB F → PE F} (Q : PUnit → sProp 𝕄) :
    has c M X ⊢ iprop((has c M X -∗ wpp c (k X) Q)
      -∗ wpp c (.op (.load M (Rect.unit (s := S64x1024) ![0, 0] S64x1024.size inb_S64x1024_S64x1024_0_0).toLoadRect hl) k) Q) := by
  have e : (fun i => X ((Rect.unit (s := S64x1024) ![0, 0] S64x1024.size inb_S64x1024_S64x1024_0_0).emb i)) = X :=
    funext fun i => congrArg X (emb_m i)
  have h := load_in c M (Rect.unit (s := S64x1024) ![0, 0] S64x1024.size inb_S64x1024_S64x1024_0_0) X (hl := hl) (k := k) Q
  rw [e] at h
  exact h
theorem load_b (c : Dev nD) (X : Vec F S512x1024 .f32)
    {hl : (bM : Memref sig .tc .vmem S512x1024 .f32).view.LoadsAt (Rect.unit (s := S512x1024) ![0, 0] S512x1024.size inb_S512x1024_S512x1024_0_0).toLoadRect}
    {k : Vec F S512x1024 .f32 → PE F} (Q : PUnit → sProp 𝕄) :
    has c bM X ⊢ iprop((has c bM X -∗ wpp c (k X) Q)
      -∗ wpp c (.op (.load bM (Rect.unit (s := S512x1024) ![0, 0] S512x1024.size inb_S512x1024_S512x1024_0_0).toLoadRect hl) k) Q) := by
  have e : (fun i => X ((Rect.unit (s := S512x1024) ![0, 0] S512x1024.size inb_S512x1024_S512x1024_0_0).emb i)) = X :=
    funext fun i => congrArg X (emb_w i)
  have h := load_in c bM (Rect.unit (s := S512x1024) ![0, 0] S512x1024.size inb_S512x1024_S512x1024_0_0) X (hl := hl) (k := k) Q
  rw [e] at h
  exact h
theorem store_w (c : Dev nD) (X w : Vec F S512x1024 .bf16)
    {hx : ((wM : Memref sig .tc .vmem S512x1024 .bf16).access (Rect.unit (s := S512x1024) ![0, 0] S512x1024.size inb_S512x1024_S512x1024_0_0)).Stores Finset.univ}
    {hm : (Finset.univ : Finset S512x1024.Idx) = Finset.univ ∨ ∀ a, (Rect.unit (s := S512x1024) ![0, 0] S512x1024.size inb_S512x1024_S512x1024_0_0).stride a = 1}
    {k : PUnit → PE F} (Q : PUnit → sProp 𝕄) :
    has c wM X ⊢ iprop((has c wM w -∗ wpp c (k ⟨⟩) Q)
      -∗ wpp c (.op (.store wM (Rect.unit (s := S512x1024) ![0, 0] S512x1024.size inb_S512x1024_S512x1024_0_0) w Finset.univ hx hm) k) Q) := by
  have hw (f w : (cc0_scratch0 : Ref sig .tc).ty.Contents (Elt F)) :
      ((wM : Memref sig .tc .vmem S512x1024 .bf16).access (Rect.unit (s := S512x1024) ![0, 0] S512x1024.size inb_S512x1024_S512x1024_0_0)
        : View sig .tc _ _ _).write (Elt F) f w Finset.univ = w :=
    Memref.write_access_unit_zero_univ (Elt F) cc0_scratch0 zero2 _ f w
  have ho (X : Vec F S512x1024 .bf16) : (has c wM X : sProp 𝕄) = ((c : Thread nD τ).loc cc0_scratch0 ↦{fullShare} X) :=
    owns_whole (Ix := Unit) (Name := ℕ) (U := UU) (Lvl := ℕ) (c : Thread nD τ) cc0_scratch0 fullShare X
  rw [ho, ho]
  have h := wp_store (defs := defs₀ (F := F)) (Ix := Unit) (Name := ℕ) (U := UU) (Lvl := ℕ) (Γ := .empty) 𝒱₀ (c : Thread nD τ) none Set.univ (m := wM)
    (r := Rect.unit (s := S512x1024) ![0, 0] S512x1024.size inb_S512x1024_S512x1024_0_0) (w := w) (Mk := Finset.univ) (f := X) (S := Finset.univ)
    (hx := hx) (hm := hm) (k := k) (Q := Q) (Finset.subset_univ _)
  rw [hw] at h
  exact h

/-- The contents of a landing slot as they are laid out with a leading axis of one. -/
def unslot (Y : vB F) : Vec F S1x64x1024 .bf16 := fun j => Y ((Shape.reshapeEquiv squeezes_S1x64x1024_S64x1024.numel_eq).symm j)
theorem pay_unslot (X Y : vB F) : k0_pay22 X (unslot Y) = k0_pay35 X Y := by
  have h : shapeCast S64x1024 (unslot Y) shapeCasts_S1x64x1024_S64x1024 = Y := funext fun j => by
    unfold shapeCast unslot; rw [Equiv.symm_apply_apply]
  unfold k0_pay22 k0_pay35; rw [h]
theorem load_slot (c : Dev nD) (g : Fin 2) (i : Fin 6) (Y : vB F) {hl : (cM g).view.LoadsAt (slotRect i (slot_inb i)).toLoadRect}
    {k : Vec F S1x64x1024 .bf16 → PE F} (Q : PUnit → sProp 𝕄) :
    has c (slot g i) Y ⊢ iprop((has c (slot g i) Y -∗ wpp c (k (unslot Y)) Q) -∗ wpp c (.op (.load (cM g) (slotRect i (slot_inb i)).toLoadRect hl) k) Q) := by
  have hset : (slot g i).view.set = ((cM g).access (slotRect i (slot_inb i))).set := View.set_reshape _ _
  unfold has owns
  iintro ⟨%f, %hf, H⟩ Hk
  have hu : unslot Y = ((cM g).access (slotRect i (slot_inb i))).read (Elt F) f := by
    subst hf; funext j; unfold unslot
    show ((cM g).access (slotRect i (slot_inb i))).read (Elt F) f (Shape.reshapeEquiv _ ((Shape.reshapeEquiv _).symm j)) = _
    rw [Equiv.apply_symm_apply]
  rw [hu]
  iapply (wp_load_rect 𝒱₀ (c : Thread nD τ) none Set.univ (m := cM g) (r := slotRect i (slot_inb i)) (f := f) (S := (slot g i).view.set)
    (by rw [hset])) $$ H
  iintro H
  iapply Hk
  iexists f; isplitr; · ipureintro; exact hf
  iexact H

/-! ## The statements -/

section
variable (A : Dev nD → Vec F S1024x512 .f32) (B : Dev nD → Vec F S512x1024 .f32)

/-- The operands as the products read them: the first, and the second rounded. -/
def ins (c : Dev nD) : sProp 𝕄 := iprop(has c aM (A c) ∗ has c wM (k0_pay1 (B c)))

/-- The second operand rounded. -/
theorem step_cast (c : Dev nD) :
    Step c iprop(has c bM (B c) ∗ ∃ W, has c wM W) [castB] iprop(has c bM (B c) ∗ has c wM (k0_pay1 (B c))) := by
  intro tl Q
  show _ ⊢ iprop(_ -∗ wpp c (castB >>= fun _ => seqL tl) Q)
  unfold castB
  simp only [Prog.lift, Prog.bind_op, Prog.bind_ret]
  iintro ⟨Hb, ⟨%W, Hw⟩⟩ Hk
  iapply (load_b c (B c) Q) $$ Hb
  iintro Hb
  iapply (load_w c wM W Q) $$ Hw
  iintro Hw
  iapply (store_w c W (k0_pay1 (B c)) Q) $$ Hw
  iintro Hw
  iapply Hk
  isplitl [Hb] <;> iassumption

/-- The product of a block. -/
theorem step_mm (c : Dev nD) (b : Blk) :
    Step c iprop(ins A B c ∗ some' c (zS b)) [mm b] iprop(ins A B c ∗ holds c (zS b) (part A B c b)) := by
  intro tl Q
  show _ ⊢ iprop(_ -∗ wpp c (mm b >>= fun _ => seqL tl) Q)
  unfold mm mmAt
  simp only [Prog.lift, Prog.bind_op, Prog.bind_ret]
  unfold ins some'
  simp only [holds_eq]
  iintro ⟨⟨Ha, Hw⟩, ⟨%X, Hz⟩⟩ Hk
  iapply (load_in c aM _ (A c) Q) $$ Ha
  iintro Ha
  iapply (load_w c wM (k0_pay1 (B c)) Q) $$ Hw
  iintro Hw
  iapply (load_at c zM _ (fun _ => rfl) X Q) $$ Hz
  iintro Hz
  iapply (store_at c zM _ (fun _ => rfl) X _ Q) $$ Hz
  iintro Hz
  iapply Hk
  isplitl [Ha Hw]
  · isplitl [Ha] <;> iassumption
  iexact Hz

/-- A block increased by what landed in a slot. -/
theorem step_acc (c : Dev nD) (b : Blk) (g : Fin 2) (i : Fin 6) (X Y : vB F) :
    Step c iprop(holds c (zS b) X ∗ holds c (slot g i) Y) [acc b g i] iprop(holds c (zS b) (k0_pay35 X Y) ∗ holds c (slot g i) Y) := by
  intro tl Q
  show _ ⊢ iprop(_ -∗ wpp c (acc b g i >>= fun _ => seqL tl) Q)
  unfold acc accAt
  simp only [Prog.lift, Prog.bind_op, Prog.bind_ret]
  simp only [holds_eq]
  iintro ⟨Hz, Hs⟩ Hk
  iapply (load_at c zM _ (fun _ => rfl) X Q) $$ Hz
  iintro Hz
  iapply (load_slot c g i Y Q) $$ Hs
  iintro Hs
  iapply (load_at c zM _ (fun _ => rfl) X Q) $$ Hz
  iintro Hz
  iapply (store_at c zM _ (fun _ => rfl) X _ Q) $$ Hz
  iintro Hz
  iapply Hk
  isplitl [Hz]
  · rw [← pay_unslot]
    iexact Hz
  iexact Hs

/-- A block increased by what landed in an exchange buffer. -/
theorem step_accM (c : Dev nD) (b : Blk) (t : Memref sig .tc .vmem S64x1024 .bf16) (X Y : vB F) :
    Step c iprop(holds c (zS b) X ∗ holds c t Y) [accM b t] iprop(holds c (zS b) (k0_pay35 X Y) ∗ holds c t Y) := by
  intro tl Q
  show _ ⊢ iprop(_ -∗ wpp c (accM b t >>= fun _ => seqL tl) Q)
  unfold accM accMAt
  simp only [Prog.lift, Prog.bind_op, Prog.bind_ret]
  simp only [holds_eq]
  iintro ⟨Hz, Hs⟩ Hk
  iapply (load_at c zM _ (fun _ => rfl) X Q) $$ Hz
  iintro Hz
  iapply (load_m c t Y Q) $$ Hs
  iintro Hs
  iapply (load_at c zM _ (fun _ => rfl) X Q) $$ Hz
  iintro Hz
  iapply (store_at c zM _ (fun _ => rfl) X _ Q) $$ Hz
  iintro Hz
  iapply Hk
  isplitl [Hz] <;> iassumption

/-- The activation of a block. -/
theorem step_silu (c : Dev nD) (b : Blk) (X : vB F) :
    Step c iprop(holds c (zS b) X ∗ some' c (oS b)) [silu b] iprop(holds c (zS b) X ∗ holds c (oS b) (k0_pay39 X)) := by
  intro tl Q
  show _ ⊢ iprop(_ -∗ wpp c (silu b >>= fun _ => seqL tl) Q)
  unfold silu siluAt
  simp only [Prog.lift, Prog.bind_op, Prog.bind_ret]
  unfold some'
  simp only [holds_eq]
  iintro ⟨Hz, ⟨%Y, Ho⟩⟩ Hk
  iapply (load_at c zM _ (fun _ => rfl) X Q) $$ Hz
  iintro Hz
  iapply (load_at c oM _ (fun _ => rfl) Y Q) $$ Ho
  iintro Ho
  iapply (store_at c oM _ (fun _ => rfl) Y _ Q) $$ Ho
  iintro Ho
  iapply Hk
  isplitl [Hz] <;> iassumption

end

end Cert.Silu

end
-- ==== Proof.Raw.lean ====
/-
The body of the kernel as the list of its statements, at the offsets and the devices the program computes.
-/
module

public import proofs.«01_k».proof.Proof.Ops
public import Idealize.ShloMosaic.Lib.Pipeline.Regions

@[expose] public section

set_option backward.proofsInPublic true
set_option maxRecDepth 65536

noncomputable section

namespace Cert.Silu

open Cert.KernelIdeal Cert.KernelIdeal.Gen
open Idealize.ShloMosaic Idealize.ShloMosaic.TcCoe Idealize.SL.Sem

variable {F : FTy → Type} [FloatOps F]

/-- The statements of device `c`. -/
def raw (c : Dev nD) : List (PE F) :=
  [
    sigAt (⟨k0_dev1 c, k0_dev1_lt c⟩ : Dev nD),
    sigAt (⟨k0_dev2 c, k0_dev2_lt c⟩ : Dev nD),
    sigAt (⟨k0_dev3 c, k0_dev3_lt c⟩ : Dev nD),
    sigAt (⟨k0_dev4 c, k0_dev4_lt c⟩ : Dev nD),
    sigAt (⟨k0_dev5 c, k0_dev5_lt c⟩ : Dev nD),
    barAt,
    castB,
    mmAt (k0_off1 c) (k0_off2 c) (k0_off1_inb c) (k0_off2_inb c) (k0_off2_packedbf16 c),
    mmAt (k0_off3 c 2#32 64#32) (k0_off4 c 2#32 64#32) (k0_off3_inb c 0) (k0_off4_inb c 0) (k0_off4_packedbf16 c 0),
    mmAt (k0_off5 c) (k0_off6 c) (k0_off5_inb c) (k0_off6_inb c) (k0_off6_packedbf16 c),
    mmAt (k0_off7 c 2#32 64#32) (k0_off8 c 2#32 64#32) (k0_off7_inb c 0) (k0_off8_inb c 0) (k0_off8_packedbf16 c 0),
    sendAt (zAt (k0_off9 c 4#32 0#32) (k0_off9_inb c 0 0)) (slot 0 0) (⟨k0_dev6 c, k0_dev6_lt c⟩ : Dev nD) (sSem 0) (rSem 0) (zAt_exact _ _ (k0_off9_wordsbf16 c 0 0)) (slot_exact 0 0),
    sendAt (zAt (k0_off10 c 2#32 0#32) (k0_off10_inb c 1 0)) (slot 0 1) (⟨k0_dev7 c, k0_dev7_lt c⟩ : Dev nD) (sSem 1) (rSem 1) (zAt_exact _ _ (k0_off10_wordsbf16 c 1 0)) (slot_exact 0 1),
    sendAt (zAt (k0_off11 c 4#32 0#32) (k0_off11_inb c 0 0)) (slot 1 0) (⟨k0_dev8 c, k0_dev8_lt c⟩ : Dev nD) (sSem 18) (rSem 18) (zAt_exact _ _ (k0_off11_wordsbf16 c 0 0)) (slot_exact 1 0),
    sendAt (zAt (k0_off12 c 2#32 0#32) (k0_off12_inb c 1 0)) (slot 1 1) (⟨k0_dev9 c, k0_dev9_lt c⟩ : Dev nD) (sSem 19) (rSem 19) (zAt_exact _ _ (k0_off12_wordsbf16 c 1 0)) (slot_exact 1 1),
    mmAt (k0_off3 c 3#32 0#32) (k0_off4 c 3#32 0#32) (k0_off3_inb c 1) (k0_off4_inb c 1) (k0_off4_packedbf16 c 1),
    mmAt (k0_off3 c 3#32 64#32) (k0_off4 c 3#32 64#32) (k0_off3_inb c 2) (k0_off4_inb c 2) (k0_off4_packedbf16 c 2),
    mmAt (k0_off7 c 3#32 0#32) (k0_off8 c 3#32 0#32) (k0_off7_inb c 1) (k0_off8_inb c 1) (k0_off8_packedbf16 c 1),
    mmAt (k0_off7 c 3#32 64#32) (k0_off8 c 3#32 64#32) (k0_off7_inb c 2) (k0_off8_inb c 2) (k0_off8_packedbf16 c 2),
    mmAt (k0_off13 c 2#32) (k0_off14 c 2#32) (k0_off13_inb c 1) (k0_off14_inb c 1) (k0_off14_packedbf16 c 1),
    mmAt (k0_off15 c) (k0_off16 c) (k0_off15_inb c) (k0_off16_inb c) (k0_off16_packedbf16 c),
    mmAt (k0_off17 c 2#32) (k0_off18 c 2#32) (k0_off17_inb c 1) (k0_off18_inb c 1) (k0_off18_packedbf16 c 1),
    mmAt (k0_off19 c) (k0_off20 c) (k0_off19_inb c) (k0_off20_inb c) (k0_off20_packedbf16 c),
    mmAt (k0_off13 c 1#32) (k0_off14 c 1#32) (k0_off13_inb c 0) (k0_off14_inb c 0) (k0_off14_packedbf16 c 0),
    mmAt (k0_off3 c 1#32 64#32) (k0_off4 c 1#32 64#32) (k0_off3_inb c 3) (k0_off4_inb c 3) (k0_off4_packedbf16 c 3),
    mmAt (k0_off17 c 1#32) (k0_off18 c 1#32) (k0_off17_inb c 0) (k0_off18_inb c 0) (k0_off18_packedbf16 c 0),
    mmAt (k0_off7 c 1#32 64#32) (k0_off8 c 1#32 64#32) (k0_off7_inb c 3) (k0_off8_inb c 3) (k0_off8_packedbf16 c 3),
    finAt (zAt (k0_off9 c 4#32 0#32) (k0_off9_inb c 0 0)) (slot 0 0) (sSem 0) (rSem 0) (zAt_exact _ _ (k0_off9_wordsbf16 c 0 0)) (slot_exact 0 0),
    accAt (k0_off21 c 0#32) (k0_off21_inb c 0) (k0_off21_packedbf16 c 0) 0 0,
    finAt (zAt (k0_off10 c 2#32 0#32) (k0_off10_inb c 1 0)) (slot 0 1) (sSem 1) (rSem 1) (zAt_exact _ _ (k0_off10_wordsbf16 c 1 0)) (slot_exact 0 1),
    accAt (k0_off22 c 0#32) (k0_off22_inb c 0) (k0_off22_packedbf16 c 0) 0 1,
    finAt (zAt (k0_off11 c 4#32 0#32) (k0_off11_inb c 0 0)) (slot 1 0) (sSem 18) (rSem 18) (zAt_exact _ _ (k0_off11_wordsbf16 c 0 0)) (slot_exact 1 0),
    accAt (k0_off23 c 0#32) (k0_off23_inb c 0) (k0_off23_packedbf16 c 0) 1 0,
    finAt (zAt (k0_off12 c 2#32 0#32) (k0_off12_inb c 1 0)) (slot 1 1) (sSem 19) (rSem 19) (zAt_exact _ _ (k0_off12_wordsbf16 c 1 0)) (slot_exact 1 1),
    accAt (k0_off24 c 0#32) (k0_off24_inb c 0) (k0_off24_packedbf16 c 0) 1 1,
    sendAt (zAt (k0_off9 c 4#32 1#32) (k0_off9_inb c 0 1)) (slot 0 2) (⟨k0_dev10 c, k0_dev10_lt c⟩ : Dev nD) (sSem 2) (rSem 2) (zAt_exact _ _ (k0_off9_wordsbf16 c 0 1)) (slot_exact 0 2),
    sendAt (zAt (k0_off10 c 2#32 1#32) (k0_off10_inb c 1 1)) (slot 0 3) (⟨k0_dev11 c, k0_dev11_lt c⟩ : Dev nD) (sSem 3) (rSem 3) (zAt_exact _ _ (k0_off10_wordsbf16 c 1 1)) (slot_exact 0 3),
    sendAt (zAt (k0_off11 c 4#32 1#32) (k0_off11_inb c 0 1)) (slot 1 2) (⟨k0_dev12 c, k0_dev12_lt c⟩ : Dev nD) (sSem 20) (rSem 20) (zAt_exact _ _ (k0_off11_wordsbf16 c 0 1)) (slot_exact 1 2),
    sendAt (zAt (k0_off12 c 2#32 1#32) (k0_off12_inb c 1 1)) (slot 1 3) (⟨k0_dev13 c, k0_dev13_lt c⟩ : Dev nD) (sSem 21) (rSem 21) (zAt_exact _ _ (k0_off12_wordsbf16 c 1 1)) (slot_exact 1 3),
    finAt (zAt (k0_off9 c 4#32 1#32) (k0_off9_inb c 0 1)) (slot 0 2) (sSem 2) (rSem 2) (zAt_exact _ _ (k0_off9_wordsbf16 c 0 1)) (slot_exact 0 2),
    accAt (k0_off21 c 1#32) (k0_off21_inb c 1) (k0_off21_packedbf16 c 1) 0 2,
    finAt (zAt (k0_off10 c 2#32 1#32) (k0_off10_inb c 1 1)) (slot 0 3) (sSem 3) (rSem 3) (zAt_exact _ _ (k0_off10_wordsbf16 c 1 1)) (slot_exact 0 3),
    accAt (k0_off22 c 1#32) (k0_off22_inb c 1) (k0_off22_packedbf16 c 1) 0 3,
    finAt (zAt (k0_off11 c 4#32 1#32) (k0_off11_inb c 0 1)) (slot 1 2) (sSem 20) (rSem 20) (zAt_exact _ _ (k0_off11_wordsbf16 c 0 1)) (slot_exact 1 2),
    accAt (k0_off23 c 1#32) (k0_off23_inb c 1) (k0_off23_packedbf16 c 1) 1 2,
    finAt (zAt (k0_off12 c 2#32 1#32) (k0_off12_inb c 1 1)) (slot 1 3) (sSem 21) (rSem 21) (zAt_exact _ _ (k0_off12_wordsbf16 c 1 1)) (slot_exact 1 3),
    accAt (k0_off24 c 1#32) (k0_off24_inb c 1) (k0_off24_packedbf16 c 1) 1 3,
    sendAt (zAt (k0_off9 c 4#32 2#32) (k0_off9_inb c 0 2)) (slot 0 4) (⟨k0_dev14 c, k0_dev14_lt c⟩ : Dev nD) (sSem 4) (rSem 4) (zAt_exact _ _ (k0_off9_wordsbf16 c 0 2)) (slot_exact 0 4),
    sendAt (zAt (k0_off10 c 2#32 2#32) (k0_off10_inb c 1 2)) (slot 0 5) (⟨k0_dev15 c, k0_dev15_lt c⟩ : Dev nD) (sSem 5) (rSem 5) (zAt_exact _ _ (k0_off10_wordsbf16 c 1 2)) (slot_exact 0 5),
    sendAt (zAt (k0_off11 c 4#32 2#32) (k0_off11_inb c 0 2)) (slot 1 4) (⟨k0_dev16 c, k0_dev16_lt c⟩ : Dev nD) (sSem 22) (rSem 22) (zAt_exact _ _ (k0_off11_wordsbf16 c 0 2)) (slot_exact 1 4),
    sendAt (zAt (k0_off12 c 2#32 2#32) (k0_off12_inb c 1 2)) (slot 1 5) (⟨k0_dev17 c, k0_dev17_lt c⟩ : Dev nD) (sSem 23) (rSem 23) (zAt_exact _ _ (k0_off12_wordsbf16 c 1 2)) (slot_exact 1 5),
    finAt (zAt (k0_off9 c 4#32 2#32) (k0_off9_inb c 0 2)) (slot 0 4) (sSem 4) (rSem 4) (zAt_exact _ _ (k0_off9_wordsbf16 c 0 2)) (slot_exact 0 4),
    accAt (k0_off21 c 2#32) (k0_off21_inb c 2) (k0_off21_packedbf16 c 2) 0 4,
    finAt (zAt (k0_off10 c 2#32 2#32) (k0_off10_inb c 1 2)) (slot 0 5) (sSem 5) (rSem 5) (zAt_exact _ _ (k0_off10_wordsbf16 c 1 2)) (slot_exact 0 5),
    accAt (k0_off22 c 2#32) (k0_off22_inb c 2) (k0_off22_packedbf16 c 2) 0 5,
    finAt (zAt (k0_off11 c 4#32 2#32) (k0_off11_inb c 0 2)) (slot 1 4) (sSem 22) (rSem 22) (zAt_exact _ _ (k0_off11_wordsbf16 c 0 2)) (slot_exact 1 4),
    accAt (k0_off23 c 2#32) (k0_off23_inb c 2) (k0_off23_packedbf16 c 2) 1 4,
    finAt (zAt (k0_off12 c 2#32 2#32) (k0_off12_inb c 1 2)) (slot 1 5) (sSem 23) (rSem 23) (zAt_exact _ _ (k0_off12_wordsbf16 c 1 2)) (slot_exact 1 5),
    accAt (k0_off24 c 2#32) (k0_off24_inb c 2) (k0_off24_packedbf16 c 2) 1 5,
    sendAt (zAt (k0_off25 c) (k0_off25_inb c)) (m1M 0) (⟨k0_dev18 c, k0_dev18_lt c⟩ : Dev nD) (sSem 6) (rSem 6) (zAt_exact _ _ (k0_off25_wordsbf16 c)) (whole_m1M 0).wordExact,
    sendAt (zAt (k0_off26 c) (k0_off26_inb c)) (m1M 1) (⟨k0_dev19 c, k0_dev19_lt c⟩ : Dev nD) (sSem 24) (rSem 24) (zAt_exact _ _ (k0_off26_wordsbf16 c)) (whole_m1M 1).wordExact,
    finAt (zAt (k0_off25 c) (k0_off25_inb c)) (m1M 0) (sSem 6) (rSem 6) (zAt_exact _ _ (k0_off25_wordsbf16 c)) (whole_m1M 0).wordExact,
    accMAt (k0_off27 c) (k0_off27_inb c) (k0_off27_packedbf16 c) (m1M 0),
    finAt (zAt (k0_off26 c) (k0_off26_inb c)) (m1M 1) (sSem 24) (rSem 24) (zAt_exact _ _ (k0_off26_wordsbf16 c)) (whole_m1M 1).wordExact,
    accMAt (k0_off28 c) (k0_off28_inb c) (k0_off28_packedbf16 c) (m1M 1),
    sendAt (zAt (k0_off29 c) (k0_off29_inb c)) (m2M 0) (⟨k0_dev20 c, k0_dev20_lt c⟩ : Dev nD) (sSem 8) (rSem 8) (zAt_exact _ _ (k0_off29_wordsbf16 c)) (whole_m2M 0).wordExact,
    sendAt (zAt (k0_off30 c) (k0_off30_inb c)) (m2M 1) (⟨k0_dev21 c, k0_dev21_lt c⟩ : Dev nD) (sSem 26) (rSem 26) (zAt_exact _ _ (k0_off30_wordsbf16 c)) (whole_m2M 1).wordExact,
    finAt (zAt (k0_off29 c) (k0_off29_inb c)) (m2M 0) (sSem 8) (rSem 8) (zAt_exact _ _ (k0_off29_wordsbf16 c)) (whole_m2M 0).wordExact,
    accMAt (k0_off27 c) (k0_off27_inb c) (k0_off27_packedbf16 c) (m2M 0),
    finAt (zAt (k0_off30 c) (k0_off30_inb c)) (m2M 1) (sSem 26) (rSem 26) (zAt_exact _ _ (k0_off30_wordsbf16 c)) (whole_m2M 1).wordExact,
    accMAt (k0_off28 c) (k0_off28_inb c) (k0_off28_packedbf16 c) (m2M 1),
    siluAt (k0_off27 c) (k0_off27_inb c) (k0_off27_packedbf16 c),
    siluAt (k0_off28 c) (k0_off28_inb c) (k0_off28_packedbf16 c),
    sendAt (oAt (k0_off29 c) (k0_off29_inb c)) (oAt (k0_off29 c) (k0_off29_inb c)) (⟨k0_dev22 c, k0_dev22_lt c⟩ : Dev nD) (sSem 10) (rSem 10) (oAt_exact _ _ (k0_off29_wordsbf16 c)) (oAt_exact _ _ (k0_off29_wordsbf16 c)),
    sendAt (oAt (k0_off30 c) (k0_off30_inb c)) (oAt (k0_off30 c) (k0_off30_inb c)) (⟨k0_dev23 c, k0_dev23_lt c⟩ : Dev nD) (sSem 28) (rSem 28) (oAt_exact _ _ (k0_off30_wordsbf16 c)) (oAt_exact _ _ (k0_off30_wordsbf16 c)),
    finAt (oAt (k0_off29 c) (k0_off29_inb c)) (oAt (k0_off29 c) (k0_off29_inb c)) (sSem 10) (rSem 10) (oAt_exact _ _ (k0_off29_wordsbf16 c)) (oAt_exact _ _ (k0_off29_wordsbf16 c)),
    finAt (oAt (k0_off30 c) (k0_off30_inb c)) (oAt (k0_off30 c) (k0_off30_inb c)) (sSem 28) (rSem 28) (oAt_exact _ _ (k0_off30_wordsbf16 c)) (oAt_exact _ _ (k0_off30_wordsbf16 c)),
    sendAt (oAt (k0_off9 c 5#32 0#32) (k0_off9_inb c 1 0)) (oAt (k0_off9 c 5#32 0#32) (k0_off9_inb c 1 0)) (⟨k0_dev24 c, k0_dev24_lt c⟩ : Dev nD) (sSem 12) (rSem 12) (oAt_exact _ _ (k0_off9_wordsbf16 c 1 0)) (oAt_exact _ _ (k0_off9_wordsbf16 c 1 0)),
    sendAt (oAt (k0_off10 c 1#32 0#32) (k0_off10_inb c 0 0)) (oAt (k0_off10 c 1#32 0#32) (k0_off10_inb c 0 0)) (⟨k0_dev25 c, k0_dev25_lt c⟩ : Dev nD) (sSem 13) (rSem 13) (oAt_exact _ _ (k0_off10_wordsbf16 c 0 0)) (oAt_exact _ _ (k0_off10_wordsbf16 c 0 0)),
    sendAt (oAt (k0_off11 c 5#32 0#32) (k0_off11_inb c 1 0)) (oAt (k0_off11 c 5#32 0#32) (k0_off11_inb c 1 0)) (⟨k0_dev26 c, k0_dev26_lt c⟩ : Dev nD) (sSem 30) (rSem 30) (oAt_exact _ _ (k0_off11_wordsbf16 c 1 0)) (oAt_exact _ _ (k0_off11_wordsbf16 c 1 0)),
    sendAt (oAt (k0_off12 c 1#32 0#32) (k0_off12_inb c 0 0)) (oAt (k0_off12 c 1#32 0#32) (k0_off12_inb c 0 0)) (⟨k0_dev27 c, k0_dev27_lt c⟩ : Dev nD) (sSem 31) (rSem 31) (oAt_exact _ _ (k0_off12_wordsbf16 c 0 0)) (oAt_exact _ _ (k0_off12_wordsbf16 c 0 0)),
    finAt (oAt (k0_off9 c 5#32 0#32) (k0_off9_inb c 1 0)) (oAt (k0_off9 c 5#32 0#32) (k0_off9_inb c 1 0)) (sSem 12) (rSem 12) (oAt_exact _ _ (k0_off9_wordsbf16 c 1 0)) (oAt_exact _ _ (k0_off9_wordsbf16 c 1 0)),
    finAt (oAt (k0_off10 c 1#32 0#32) (k0_off10_inb c 0 0)) (oAt (k0_off10 c 1#32 0#32) (k0_off10_inb c 0 0)) (sSem 13) (rSem 13) (oAt_exact _ _ (k0_off10_wordsbf16 c 0 0)) (oAt_exact _ _ (k0_off10_wordsbf16 c 0 0)),
    finAt (oAt (k0_off11 c 5#32 0#32) (k0_off11_inb c 1 0)) (oAt (k0_off11 c 5#32 0#32) (k0_off11_inb c 1 0)) (sSem 30) (rSem 30) (oAt_exact _ _ (k0_off11_wordsbf16 c 1 0)) (oAt_exact _ _ (k0_off11_wordsbf16 c 1 0)),
    finAt (oAt (k0_off12 c 1#32 0#32) (k0_off12_inb c 0 0)) (oAt (k0_off12 c 1#32 0#32) (k0_off12_inb c 0 0)) (sSem 31) (rSem 31) (oAt_exact _ _ (k0_off12_wordsbf16 c 0 0)) (oAt_exact _ _ (k0_off12_wordsbf16 c 0 0)),
    sendAt (oAt (k0_off9 c 5#32 1#32) (k0_off9_inb c 1 1)) (oAt (k0_off9 c 5#32 1#32) (k0_off9_inb c 1 1)) (⟨k0_dev28 c, k0_dev28_lt c⟩ : Dev nD) (sSem 14) (rSem 14) (oAt_exact _ _ (k0_off9_wordsbf16 c 1 1)) (oAt_exact _ _ (k0_off9_wordsbf16 c 1 1)),
    sendAt (oAt (k0_off10 c 1#32 1#32) (k0_off10_inb c 0 1)) (oAt (k0_off10 c 1#32 1#32) (k0_off10_inb c 0 1)) (⟨k0_dev29 c, k0_dev29_lt c⟩ : Dev nD) (sSem 15) (rSem 15) (oAt_exact _ _ (k0_off10_wordsbf16 c 0 1)) (oAt_exact _ _ (k0_off10_wordsbf16 c 0 1)),
    sendAt (oAt (k0_off11 c 5#32 1#32) (k0_off11_inb c 1 1)) (oAt (k0_off11 c 5#32 1#32) (k0_off11_inb c 1 1)) (⟨k0_dev30 c, k0_dev30_lt c⟩ : Dev nD) (sSem 32) (rSem 32) (oAt_exact _ _ (k0_off11_wordsbf16 c 1 1)) (oAt_exact _ _ (k0_off11_wordsbf16 c 1 1)),
    sendAt (oAt (k0_off12 c 1#32 1#32) (k0_off12_inb c 0 1)) (oAt (k0_off12 c 1#32 1#32) (k0_off12_inb c 0 1)) (⟨k0_dev31 c, k0_dev31_lt c⟩ : Dev nD) (sSem 33) (rSem 33) (oAt_exact _ _ (k0_off12_wordsbf16 c 0 1)) (oAt_exact _ _ (k0_off12_wordsbf16 c 0 1)),
    finAt (oAt (k0_off9 c 5#32 1#32) (k0_off9_inb c 1 1)) (oAt (k0_off9 c 5#32 1#32) (k0_off9_inb c 1 1)) (sSem 14) (rSem 14) (oAt_exact _ _ (k0_off9_wordsbf16 c 1 1)) (oAt_exact _ _ (k0_off9_wordsbf16 c 1 1)),
    finAt (oAt (k0_off10 c 1#32 1#32) (k0_off10_inb c 0 1)) (oAt (k0_off10 c 1#32 1#32) (k0_off10_inb c 0 1)) (sSem 15) (rSem 15) (oAt_exact _ _ (k0_off10_wordsbf16 c 0 1)) (oAt_exact _ _ (k0_off10_wordsbf16 c 0 1)),
    finAt (oAt (k0_off11 c 5#32 1#32) (k0_off11_inb c 1 1)) (oAt (k0_off11 c 5#32 1#32) (k0_off11_inb c 1 1)) (sSem 32) (rSem 32) (oAt_exact _ _ (k0_off11_wordsbf16 c 1 1)) (oAt_exact _ _ (k0_off11_wordsbf16 c 1 1)),
    finAt (oAt (k0_off12 c 1#32 1#32) (k0_off12_inb c 0 1)) (oAt (k0_off12 c 1#32 1#32) (k0_off12_inb c 0 1)) (sSem 33) (rSem 33) (oAt_exact _ _ (k0_off12_wordsbf16 c 0 1)) (oAt_exact _ _ (k0_off12_wordsbf16 c 0 1)),
    sendAt (oAt (k0_off9 c 5#32 2#32) (k0_off9_inb c 1 2)) (oAt (k0_off9 c 5#32 2#32) (k0_off9_inb c 1 2)) (⟨k0_dev32 c, k0_dev32_lt c⟩ : Dev nD) (sSem 16) (rSem 16) (oAt_exact _ _ (k0_off9_wordsbf16 c 1 2)) (oAt_exact _ _ (k0_off9_wordsbf16 c 1 2)),
    sendAt (oAt (k0_off10 c 1#32 2#32) (k0_off10_inb c 0 2)) (oAt (k0_off10 c 1#32 2#32) (k0_off10_inb c 0 2)) (⟨k0_dev33 c, k0_dev33_lt c⟩ : Dev nD) (sSem 17) (rSem 17) (oAt_exact _ _ (k0_off10_wordsbf16 c 0 2)) (oAt_exact _ _ (k0_off10_wordsbf16 c 0 2)),
    sendAt (oAt (k0_off11 c 5#32 2#32) (k0_off11_inb c 1 2)) (oAt (k0_off11 c 5#32 2#32) (k0_off11_inb c 1 2)) (⟨k0_dev34 c, k0_dev34_lt c⟩ : Dev nD) (sSem 34) (rSem 34) (oAt_exact _ _ (k0_off11_wordsbf16 c 1 2)) (oAt_exact _ _ (k0_off11_wordsbf16 c 1 2)),
    sendAt (oAt (k0_off12 c 1#32 2#32) (k0_off12_inb c 0 2)) (oAt (k0_off12 c 1#32 2#32) (k0_off12_inb c 0 2)) (⟨k0_dev35 c, k0_dev35_lt c⟩ : Dev nD) (sSem 35) (rSem 35) (oAt_exact _ _ (k0_off12_wordsbf16 c 0 2)) (oAt_exact _ _ (k0_off12_wordsbf16 c 0 2)),
    finAt (oAt (k0_off9 c 5#32 2#32) (k0_off9_inb c 1 2)) (oAt (k0_off9 c 5#32 2#32) (k0_off9_inb c 1 2)) (sSem 16) (rSem 16) (oAt_exact _ _ (k0_off9_wordsbf16 c 1 2)) (oAt_exact _ _ (k0_off9_wordsbf16 c 1 2)),
    finAt (oAt (k0_off10 c 1#32 2#32) (k0_off10_inb c 0 2)) (oAt (k0_off10 c 1#32 2#32) (k0_off10_inb c 0 2)) (sSem 17) (rSem 17) (oAt_exact _ _ (k0_off10_wordsbf16 c 0 2)) (oAt_exact _ _ (k0_off10_wordsbf16 c 0 2)),
    finAt (oAt (k0_off11 c 5#32 2#32) (k0_off11_inb c 1 2)) (oAt (k0_off11 c 5#32 2#32) (k0_off11_inb c 1 2)) (sSem 34) (rSem 34) (oAt_exact _ _ (k0_off11_wordsbf16 c 1 2)) (oAt_exact _ _ (k0_off11_wordsbf16 c 1 2)),
    finAt (oAt (k0_off12 c 1#32 2#32) (k0_off12_inb c 0 2)) (oAt (k0_off12 c 1#32 2#32) (k0_off12_inb c 0 2)) (sSem 35) (rSem 35) (oAt_exact _ _ (k0_off12_wordsbf16 c 0 2)) (oAt_exact _ _ (k0_off12_wordsbf16 c 0 2))]

/-- The kernel's body over the buffers of the launch. -/
abbrev bodyProg : PE F :=
  cc0_body aM (Memref.isWhole_whole _) bM (Memref.isWhole_whole _) oM (Memref.isWhole_whole _) wM (Memref.isWhole_whole _) zM (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9

/-- It asks for the device it runs on, and runs that device's statements. -/
theorem body_raw : bodyProg (F := F) = Prog.op .deviceId (fun c => seqL (raw c)) := by
  unfold bodyProg
  rw [cc0_body_eq_skeleton]
  chain_rfl

end Cert.Silu

end
-- ==== Proof.Clean.lean ====
/-
The same list of statements at blocks and copies: every offset the program computes is the first row of the block meant,
and every device it computes is the one the copy goes to.
-/
module

public import proofs.«01_k».proof.Proof.Raw

@[expose] public section

set_option backward.proofsInPublic true
set_option maxRecDepth 65536
set_option synthInstance.maxSize 4096

noncomputable section

namespace Cert.Silu

open Cert.KernelIdeal Cert.KernelIdeal.Gen
open Idealize.ShloMosaic Idealize.ShloMosaic.TcCoe Idealize.SL.Sem

variable {F : FTy → Type} [FloatOps F]

/-! ## The program by phases -/

/-- The five signals and the wait. -/
def handshake (c : Dev nD) : List (PE F) :=
  [sigAt (peer 0 c), sigAt (peer 1 c), sigAt (peer 2 c), sigAt (peer 3 c), sigAt (peer 4 c), barAt]

/-- The products the first two copies of a half read, -/
def firstMM (h : Fin 2) (c : Dev nD) : List (PE F) := [mm (blkAt h 0 0 c), mm (blkAt h 2 1 c)]
/-- and the other six, in three pairs. -/
def nextMM (h : Fin 2) (c : Dev nD) : List (PE F) := [mm (blkAt h 3 0 c), mm (blkAt h 3 1 c)]
def midMM (h : Fin 2) (c : Dev nD) : List (PE F) := [mm (blkAt h 2 0 c), mm (blkAt h 0 1 c)]
def lastMM (h : Fin 2) (c : Dev nD) : List (PE F) := [mm (blkAt h 1 0 c), mm (blkAt h 1 1 c)]

/-- Two copies of a half started; -/
def start2 (h : Fin 2) (n n' : Fin 15) (c : Dev nD) : List (PE F) := [send (h, n) c, send (h, n') c]
/-- two finished; -/
def fin2 (h : Fin 2) (n n' : Fin 15) (c : Dev nD) : List (PE F) := [fin (h, n) c, fin (h, n') c]
/-- and two finished with what came in added to a block of chunk `j` and one of chunk `j'`. -/
def finAcc (h : Fin 2) (n n' : Fin 15) (i i' : Fin 6) (j j' : Fin 4) (c : Dev nD) : List (PE F) :=
  [fin (h, n) c, acc (blkAt h j 0 c) h i, fin (h, n') c, acc (blkAt h j' 1 c) h i']
/-- An exchange finished, what came in added to the block kept. -/
def finEx (h : Fin 2) (n : Fin 15) (t : Memref sig .tc .vmem S64x1024 .bf16) (c : Dev nD) : List (PE F) :=
  [fin (h, n) c, accM (blkAt h 1 (bit h c) c) t]

/-- The statements of device `c`. -/
def clean (c : Dev nD) : List (PE F) :=
  handshake c ++ castB :: (firstMM 0 c ++ firstMM 1 c ++ start2 0 0 1 c ++ start2 1 0 1 c
    ++ nextMM 0 c ++ nextMM 1 c ++ midMM 0 c ++ midMM 1 c ++ lastMM 0 c ++ lastMM 1 c
    ++ finAcc 0 0 1 0 1 3 3 c ++ finAcc 1 0 1 0 1 3 3 c
    ++ start2 0 2 3 c ++ start2 1 2 3 c ++ finAcc 0 2 3 2 3 2 0 c ++ finAcc 1 2 3 2 3 2 0 c
    ++ start2 0 4 5 c ++ start2 1 4 5 c ++ finAcc 0 4 5 4 5 1 1 c ++ finAcc 1 4 5 4 5 1 1 c
    ++ [send (0, 6) c] ++ [send (1, 6) c] ++ finEx 0 6 (m1M 0) c ++ finEx 1 6 (m1M 1) c
    ++ [send (0, 7) c] ++ [send (1, 7) c] ++ finEx 0 7 (m2M 0) c ++ finEx 1 7 (m2M 1) c
    ++ [silu (blkAt 0 1 (bit 0 c) c)] ++ [silu (blkAt 1 1 (bit 1 c) c)]
    ++ [send (0, 8) c] ++ [send (1, 8) c] ++ [fin (0, 8) c] ++ [fin (1, 8) c]
    ++ start2 0 9 10 c ++ start2 1 9 10 c ++ fin2 0 9 10 c ++ fin2 1 9 10 c
    ++ start2 0 11 12 c ++ start2 1 11 12 c ++ fin2 0 11 12 c ++ fin2 1 11 12 c
    ++ start2 0 13 14 c ++ start2 1 13 14 c ++ fin2 0 13 14 c ++ fin2 1 13 14 c)

/-! ## The offsets and the devices -/

/-- The rows of the products. -/
theorem offs_mm : ∀ c : Dev nD,
    (k0_off1 c = rowOff (blkAt 0 0 0 c) ∧ k0_off2 c = rowOff (blkAt 0 0 0 c)
      ∧ k0_off3 c 2#32 64#32 = rowOff (blkAt 0 2 1 c) ∧ k0_off4 c 2#32 64#32 = rowOff (blkAt 0 2 1 c)
      ∧ k0_off5 c = rowOff (blkAt 1 0 0 c) ∧ k0_off6 c = rowOff (blkAt 1 0 0 c)
      ∧ k0_off7 c 2#32 64#32 = rowOff (blkAt 1 2 1 c) ∧ k0_off8 c 2#32 64#32 = rowOff (blkAt 1 2 1 c))
    ∧ (k0_off3 c 3#32 0#32 = rowOff (blkAt 0 3 0 c) ∧ k0_off4 c 3#32 0#32 = rowOff (blkAt 0 3 0 c)
      ∧ k0_off3 c 3#32 64#32 = rowOff (blkAt 0 3 1 c) ∧ k0_off4 c 3#32 64#32 = rowOff (blkAt 0 3 1 c)
      ∧ k0_off7 c 3#32 0#32 = rowOff (blkAt 1 3 0 c) ∧ k0_off8 c 3#32 0#32 = rowOff (blkAt 1 3 0 c)
      ∧ k0_off7 c 3#32 64#32 = rowOff (blkAt 1 3 1 c) ∧ k0_off8 c 3#32 64#32 = rowOff (blkAt 1 3 1 c))
    ∧ (k0_off13 c 2#32 = rowOff (blkAt 0 2 0 c) ∧ k0_off14 c 2#32 = rowOff (blkAt 0 2 0 c)
      ∧ k0_off15 c = rowOff (blkAt 0 0 1 c) ∧ k0_off16 c = rowOff (blkAt 0 0 1 c)
      ∧ k0_off17 c 2#32 = rowOff (blkAt 1 2 0 c) ∧ k0_off18 c 2#32 = rowOff (blkAt 1 2 0 c)
      ∧ k0_off19 c = rowOff (blkAt 1 0 1 c) ∧ k0_off20 c = rowOff (blkAt 1 0 1 c))
    ∧ (k0_off13 c 1#32 = rowOff (blkAt 0 1 0 c) ∧ k0_off14 c 1#32 = rowOff (blkAt 0 1 0 c)
      ∧ k0_off3 c 1#32 64#32 = rowOff (blkAt 0 1 1 c) ∧ k0_off4 c 1#32 64#32 = rowOff (blkAt 0 1 1 c)
      ∧ k0_off17 c 1#32 = rowOff (blkAt 1 1 0 c) ∧ k0_off18 c 1#32 = rowOff (blkAt 1 1 0 c)
      ∧ k0_off7 c 1#32 64#32 = rowOff (blkAt 1 1 1 c) ∧ k0_off8 c 1#32 64#32 = rowOff (blkAt 1 1 1 c)) := by
  decide +kernel

/-- The rows of the reduce-scatter: those sent, and those increased. -/
theorem offs_rs : ∀ c : Dev nD,
    (k0_off9 c 4#32 0#32 = rowOff (blkAt 0 0 0 c) ∧ k0_off10 c 2#32 0#32 = rowOff (blkAt 0 2 1 c)
      ∧ k0_off11 c 4#32 0#32 = rowOff (blkAt 1 0 0 c) ∧ k0_off12 c 2#32 0#32 = rowOff (blkAt 1 2 1 c)
      ∧ k0_off9 c 4#32 1#32 = rowOff (blkAt 0 3 0 c) ∧ k0_off10 c 2#32 1#32 = rowOff (blkAt 0 3 1 c)
      ∧ k0_off11 c 4#32 1#32 = rowOff (blkAt 1 3 0 c) ∧ k0_off12 c 2#32 1#32 = rowOff (blkAt 1 3 1 c)
      ∧ k0_off9 c 4#32 2#32 = rowOff (blkAt 0 2 0 c) ∧ k0_off10 c 2#32 2#32 = rowOff (blkAt 0 0 1 c)
      ∧ k0_off11 c 4#32 2#32 = rowOff (blkAt 1 2 0 c) ∧ k0_off12 c 2#32 2#32 = rowOff (blkAt 1 0 1 c))
    ∧ (k0_off21 c 0#32 = rowOff (blkAt 0 3 0 c) ∧ k0_off22 c 0#32 = rowOff (blkAt 0 3 1 c)
      ∧ k0_off23 c 0#32 = rowOff (blkAt 1 3 0 c) ∧ k0_off24 c 0#32 = rowOff (blkAt 1 3 1 c)
      ∧ k0_off21 c 1#32 = rowOff (blkAt 0 2 0 c) ∧ k0_off22 c 1#32 = rowOff (blkAt 0 0 1 c)
      ∧ k0_off23 c 1#32 = rowOff (blkAt 1 2 0 c) ∧ k0_off24 c 1#32 = rowOff (blkAt 1 0 1 c)
      ∧ k0_off21 c 2#32 = rowOff (blkAt 0 1 0 c) ∧ k0_off22 c 2#32 = rowOff (blkAt 0 1 1 c)
      ∧ k0_off23 c 2#32 = rowOff (blkAt 1 1 0 c) ∧ k0_off24 c 2#32 = rowOff (blkAt 1 1 1 c)) := by
  decide +kernel

/-- The rows of the exchanges and of the all-gather. -/
theorem offs_ag : ∀ c : Dev nD,
    (k0_off25 c = rowOff (blkAt 0 1 (1 - bit 0 c) c) ∧ k0_off26 c = rowOff (blkAt 1 1 (1 - bit 1 c) c)
      ∧ k0_off27 c = rowOff (blkAt 0 1 (bit 0 c) c) ∧ k0_off28 c = rowOff (blkAt 1 1 (bit 1 c) c)
      ∧ k0_off29 c = rowOff (blkAt 0 1 (bit 0 c) c) ∧ k0_off30 c = rowOff (blkAt 1 1 (bit 1 c) c))
    ∧ (k0_off9 c 5#32 0#32 = rowOff (blkAt 0 1 0 c) ∧ k0_off10 c 1#32 0#32 = rowOff (blkAt 0 1 1 c)
      ∧ k0_off11 c 5#32 0#32 = rowOff (blkAt 1 1 0 c) ∧ k0_off12 c 1#32 0#32 = rowOff (blkAt 1 1 1 c)
      ∧ k0_off9 c 5#32 1#32 = rowOff (blkAt 0 0 0 c) ∧ k0_off10 c 1#32 1#32 = rowOff (blkAt 0 2 1 c)
      ∧ k0_off11 c 5#32 1#32 = rowOff (blkAt 1 0 0 c) ∧ k0_off12 c 1#32 1#32 = rowOff (blkAt 1 2 1 c)
      ∧ k0_off9 c 5#32 2#32 = rowOff (blkAt 0 3 0 c) ∧ k0_off10 c 1#32 2#32 = rowOff (blkAt 0 3 1 c)
      ∧ k0_off11 c 5#32 2#32 = rowOff (blkAt 1 3 0 c) ∧ k0_off12 c 1#32 2#32 = rowOff (blkAt 1 3 1 c)) := by
  decide +kernel

/-- The devices signalled. -/
theorem devs_sig : ∀ c : Dev nD,
    (⟨k0_dev1 c, k0_dev1_lt c⟩ : Dev nD) = peer 0 c ∧ (⟨k0_dev2 c, k0_dev2_lt c⟩ : Dev nD) = peer 1 c
    ∧ (⟨k0_dev3 c, k0_dev3_lt c⟩ : Dev nD) = peer 2 c ∧ (⟨k0_dev4 c, k0_dev4_lt c⟩ : Dev nD) = peer 3 c
    ∧ (⟨k0_dev5 c, k0_dev5_lt c⟩ : Dev nD) = peer 4 c := by
  decide +kernel

/-- The devices copied to, in the order of issue. -/
theorem devs_copy : ∀ c : Dev nD,
    ((⟨k0_dev6 c, k0_dev6_lt c⟩ : Dev nD) = tgt (0, 0) c ∧ (⟨k0_dev7 c, k0_dev7_lt c⟩ : Dev nD) = tgt (0, 1) c
      ∧ (⟨k0_dev8 c, k0_dev8_lt c⟩ : Dev nD) = tgt (1, 0) c ∧ (⟨k0_dev9 c, k0_dev9_lt c⟩ : Dev nD) = tgt (1, 1) c
      ∧ (⟨k0_dev10 c, k0_dev10_lt c⟩ : Dev nD) = tgt (0, 2) c ∧ (⟨k0_dev11 c, k0_dev11_lt c⟩ : Dev nD) = tgt (0, 3) c
      ∧ (⟨k0_dev12 c, k0_dev12_lt c⟩ : Dev nD) = tgt (1, 2) c ∧ (⟨k0_dev13 c, k0_dev13_lt c⟩ : Dev nD) = tgt (1, 3) c
      ∧ (⟨k0_dev14 c, k0_dev14_lt c⟩ : Dev nD) = tgt (0, 4) c ∧ (⟨k0_dev15 c, k0_dev15_lt c⟩ : Dev nD) = tgt (0, 5) c
      ∧ (⟨k0_dev16 c, k0_dev16_lt c⟩ : Dev nD) = tgt (1, 4) c ∧ (⟨k0_dev17 c, k0_dev17_lt c⟩ : Dev nD) = tgt (1, 5) c)
    ∧ ((⟨k0_dev18 c, k0_dev18_lt c⟩ : Dev nD) = tgt (0, 6) c ∧ (⟨k0_dev19 c, k0_dev19_lt c⟩ : Dev nD) = tgt (1, 6) c
      ∧ (⟨k0_dev20 c, k0_dev20_lt c⟩ : Dev nD) = tgt (0, 7) c ∧ (⟨k0_dev21 c, k0_dev21_lt c⟩ : Dev nD) = tgt (1, 7) c
      ∧ (⟨k0_dev22 c, k0_dev22_lt c⟩ : Dev nD) = tgt (0, 8) c ∧ (⟨k0_dev23 c, k0_dev23_lt c⟩ : Dev nD) = tgt (1, 8) c)
    ∧ ((⟨k0_dev24 c, k0_dev24_lt c⟩ : Dev nD) = tgt (0, 9) c ∧ (⟨k0_dev25 c, k0_dev25_lt c⟩ : Dev nD) = tgt (0, 10) c
      ∧ (⟨k0_dev26 c, k0_dev26_lt c⟩ : Dev nD) = tgt (1, 9) c ∧ (⟨k0_dev27 c, k0_dev27_lt c⟩ : Dev nD) = tgt (1, 10) c
      ∧ (⟨k0_dev28 c, k0_dev28_lt c⟩ : Dev nD) = tgt (0, 11) c ∧ (⟨k0_dev29 c, k0_dev29_lt c⟩ : Dev nD) = tgt (0, 12) c
      ∧ (⟨k0_dev30 c, k0_dev30_lt c⟩ : Dev nD) = tgt (1, 11) c ∧ (⟨k0_dev31 c, k0_dev31_lt c⟩ : Dev nD) = tgt (1, 12) c
      ∧ (⟨k0_dev32 c, k0_dev32_lt c⟩ : Dev nD) = tgt (0, 13) c ∧ (⟨k0_dev33 c, k0_dev33_lt c⟩ : Dev nD) = tgt (0, 14) c
      ∧ (⟨k0_dev34 c, k0_dev34_lt c⟩ : Dev nD) = tgt (1, 13) c ∧ (⟨k0_dev35 c, k0_dev35_lt c⟩ : Dev nD) = tgt (1, 14) c) := by
  decide +kernel

/-- The two lists are one. -/
theorem raw_clean (c : Dev nD) : raw (F := F) c = clean c := by
  unfold raw
  simp only [offs_mm c, offs_rs c, offs_ag c, devs_sig c, devs_copy c]
  chain_rfl

/-- The kernel's body runs the statements of the device it is on. -/
theorem body_eq : bodyProg (F := F) = Prog.op .deviceId (fun c => seqL (clean c)) := by
  rw [body_raw]
  rw [funext fun c => congrArg seqL (raw_clean (F := F) c)]

end Cert.Silu

end
-- ==== Proof.Hand.lean ====
/-
The handshake: every signal hands its receiver the landings of the copies that will come from there, and the wait for the
five signals brings a device the landings of its own thirty copies.
-/
module

public import proofs.«01_k».proof.Proof.Work
public import proofs.«01_k».proof.Proof.Clean

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family dealt by a function of its index and gathered again. -/
theorem bigSep_deal {I J : Type} [Fintype I] [DecidableEq I] [Fintype J] [DecidableEq J] (f : I → J) (Φ : I → sProp 𝕄) :
    (bigSep Finset.univ fun j => bigSep (Finset.univ.filter fun i => f i = j) Φ) = bigSep Finset.univ Φ := by
  rw [bigSep_congr fun j _ => bigSep_filter Finset.univ (fun i => f i = j) Φ, bigSep_univ_comm]
  refine bigSep_congr fun i _ => ?_
  rw [← bigSep_filter Finset.univ (fun j => f i = j) fun _ => Φ i, Finset.filter_eq, if_pos (Finset.mem_univ _), bigSep_singleton]

section
variable (A : Dev nD → Vec F S1024x512 .f32) (B : Dev nD → Vec F S512x1024 .f32)
variable (K : Dev nD × Cl → ℕ)

/-- The landings of a device, dealt to the five devices the copies come from. -/
theorem gifts (c : Dev nD) :
    (bigSep Finset.univ fun k : Cp => some' (F := F) c (dstM k (src k c))) = bigSep Finset.univ fun s : Fin 5 => pay A B (peer s c) none (opp s) := by
  rw [← bigSep_deal (fun k : Cp => opp (via k (src k c)))]
  refine bigSep_congr fun s _ => ?_
  unfold pay
  have hiff (k : Cp) : opp (via k (src k c)) = s ↔ via k (peer s c) = opp s := by
    constructor
    · rintro rfl
      have h : peer (opp (via k (src k c))) c = src k c := by
        have h := peer_opp (via k (src k c)) (src k c)
        rwa [peer_via, tgt_src] at h
      rw [h, opp_opp]
    · intro h
      have h1 : tgt k (peer s c) = c := by rw [← peer_via, h, peer_opp]
      have h2 : src k c = peer s c := by
        have h2 := congrArg (src k) h1
        rw [src_tgt] at h2; exact h2.symm
      rw [h2, h, opp_opp]
  rw [Finset.filter_congr fun k _ => hiff k]
  refine bigSep_congr fun k hk => ?_
  have h1 : tgt k (peer s c) = c := by rw [← peer_via, (Finset.mem_filter.mp hk).2, peer_opp]
  have h2 : src k c = peer s c := by
    have h2 := congrArg (src k) h1
    rw [src_tgt] at h2; exact h2.symm
  unfold land
  rw [h1, h2]

/-- A signal given. -/
theorem step_sig (s : Fin 5) (l : List (Fin 5)) (c : Dev nD) :
    Step c iprop((recs A B K ∗ ∃ W, owes (c : Thread nD τ) (owedB c (s :: l)) W) ∗ dutyTok ER (barC (peer s c)) 0 (opp s) ∗ pay A B (peer s c) none (opp s))
      [sigAt (peer s c)] iprop(recs A B K ∗ ∃ W, owes (c : Thread nD τ) (owedB c l) W) := by
  intro tl Q
  show _ ⊢ iprop(_ -∗ wpp c (sigAt (peer s c) >>= fun _ => seqL tl) Q)
  unfold sigAt semSignalWord
  simp only [Prog.bind_op, Prog.bind_ret]
  have hpay : pay A B (peer s c) none (opp s) ⊢ (Rd A B).payload ((peer s c : Thread nD τ), SemLoc.reg barS) 0 (opp s) :=
    Entails.of_eq (payload_at A B (peer s c) none (opp s)).symm
  iintro ⟨⟨#HR, ⟨%W, HO⟩⟩, Ht, Hp⟩ Hk
  ihave #HI := (recs_inv A B K (peer s c) none) $$ HR
  ihave #HR1 := (recs_reached A B K (peer s c) none) $$ HR
  iapply (Rounds.wp_signal 𝒱₀ ER (Rd A B) (c : Thread nD τ) none (dst := (peer s c : Thread nD τ)) (κ := K (peer s c, none))
      (d := opp s) (show opp s ∈ (Rd A B).duties (barC (peer s c)) 0 from by rw [duties_bar]; exact Finset.mem_univ _) ((amount_bar A B (peer s c) (opp s)).trans (by decide)) () (owedB c l) rfl)
    $$ [HO Ht Hp]
  · isplitr; · iexact HI
    isplitl [HO]; · iexact HO
    isplitl [Ht]; · iexact Ht
    isplitl [Hp]
    · iapply hpay; iexact Hp
    iexact HR1
  iintro HO
  iapply Hk
  isplitr; · iexact HR
  iexists W; iexact HO

theorem mayWait_bar (c : Dev nD) : recs A B K ⊢ MayWait (c : Thread nD τ) (csem none) () (owed 0 c) := by
  refine (recs_lev A B K).trans (mayWait_of c _ _ fun g u hg => ?_)
  obtain ⟨k', -, rfl⟩ := owed_pos hg
  exact ⟨rfl, by rw [lv_bar, lv_rcv]; omega⟩

/-- The five signals of one's own waited for. -/
theorem step_bar (c : Dev nD) :
    Step c iprop(at' A B K 0 c ∗ atPos ER (barC c) 0 ∅ 0 ∗ cred (tallyAt (barC c) () 5)) [barAt]
      iprop(at' A B K 0 c ∗ semVal (barC c) 0 ∗ bigSep Finset.univ fun k : Cp => land (F := F) k c) := by
  intro tl Q
  show _ ⊢ iprop(_ -∗ wpp c (barAt >>= fun _ => seqL tl) Q)
  unfold barAt semWaitWord at'
  simp only [Prog.bind_op, Prog.bind_ret]
  iintro ⟨⟨#HR, ⟨%W, HO⟩⟩, Hat, Hc⟩ Hk
  ihave #HI := (recs_inv A B K c none) $$ HR
  iapply (Rounds.wp_wait_rest_token 𝒱₀ ER (Rd A B) (c : Thread nD τ) none (κ := K (c, none)) (sm := csem none)
      (wpE_semWait_eq 𝒱₀ (c : Thread nD τ) none Set.univ) (Set.mem_univ _) () (O := owed 0 c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_bar A B K c); iexact HR
    iexact Hat
  iintro ⟨HO, Hat, -, Hp⟩
  ihave Hp := (Entails.of_eq ((rest_bar A B c).trans (bigSep_deal (fun k : Cp => via k c) fun k => land (F := F) k c))) $$ Hp
  imod (Rounds.cell_close ER (Rd A B) (Set.mem_univ (K (c, none))) (fun h => h) (R := 0 + 1) (duties_later A B (barC c))) $$ [Hat] with Hz
  · isplitr; · iexact HI
    iexact Hat
  iapply Hk
  isplitl [HO]
  · isplitr; · iexact HR
    iexists _; iexact HO
  isplitl [Hz] <;> iassumption

/-- What a device holds of the handshake, and the landings it gives away. -/
def handPre (c : Dev nD) : sProp 𝕄 :=
  iprop((recs A B K ∗ ∃ W, owes (c : Thread nD τ) (owed₀ c) W) ∗ (bigSep Finset.univ fun s : Fin 5 => dutyTok ER (barC (peer s c)) 0 (opp s))
    ∗ (bigSep Finset.univ fun k : Cp => some' (F := F) c (dstM k (src k c))) ∗ atPos ER (barC c) 0 ∅ 0 ∗ cred (tallyAt (barC c) () 5))

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The handshake. -/
theorem step_hand (c : Dev nD) :
    Step c (handPre A B K c) (handshake c) iprop(at' A B K 0 c ∗ semVal (barC c) 0 ∗ bigSep Finset.univ fun k : Cp => land (F := F) k c) := by
  intro tl Q
  unfold handPre owed₀
  rw [gifts A B c, bigSep_five, bigSep_five]
  iintro ⟨HO, ⟨T0, T1, T2, T3, T4⟩, ⟨P0, P1, P2, P3, P4⟩, Hat, Hc⟩ Hk
  iapply (step_sig A B K 0 [1, 2, 3, 4] c _ Q) $$ [HO T0 P0]
  · isplitl [HO]; · iexact HO
    isplitl [T0] <;> iassumption
  iintro HO
  iapply (step_sig A B K 1 [2, 3, 4] c _ Q) $$ [HO T1 P1]
  · isplitl [HO]; · iexact HO
    isplitl [T1] <;> iassumption
  iintro HO
  iapply (step_sig A B K 2 [3, 4] c _ Q) $$ [HO T2 P2]
  · isplitl [HO]; · iexact HO
    isplitl [T2] <;> iassumption
  iintro HO
  iapply (step_sig A B K 3 [4] c _ Q) $$ [HO T3 P3]
  · isplitl [HO]; · iexact HO
    isplitl [T3] <;> iassumption
  iintro HO
  iapply (step_sig A B K 4 [] c _ Q) $$ [HO T4 P4]
  · isplitl [HO]; · iexact HO
    isplitl [T4] <;> iassumption
  iintro HO
  iapply (step_bar A B K c tl Q) $$ [HO Hat Hc]
  · isplitl [HO]; · unfold at'; iexact HO
    isplitl [Hat] <;> iassumption
  iexact Hk

end

end Cert.Silu

end
-- ==== Proof.Lanes.lean ====
/-
The copies of a half run in two lanes, one to the right and one to the left. A lane's part of the reduce-scatter and of
the all-gather, and a half's exchanges, statement by statement.
-/
module

public import proofs.«01_k».proof.Proof.Hand

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Separating conjunction is associative and commutative, as equations. -/
theorem sepA (P Q R : sProp 𝕄) : iprop((P ∗ Q) ∗ R) = iprop(P ∗ Q ∗ R) := BI.equiv_iff.mp ⟨BI.sep_assoc, BI.sep_assoc'⟩
theorem sepC (P Q : sProp 𝕄) : iprop(P ∗ Q) = iprop(Q ∗ P) := BI.equiv_iff.mp ⟨BI.sep_comm, BI.sep_comm⟩

/-! ## Steps within a larger state -/

section

theorem Step.one {c : Dev nD} {S S' a a' R : sProp 𝕄} {l : List (PE F)}
    (h : Step c iprop(S ∗ a) l iprop(S' ∗ a')) : Step c iprop(S ∗ a ∗ R) l iprop(S' ∗ a' ∗ R) := by
  have h' := h.frame R
  rw [sepA S a R, sepA S' a' R] at h'
  exact h'
theorem Step.rest {c : Dev nD} {S S' a a' R : sProp 𝕄} {l : List (PE F)}
    (h : Step c iprop(S ∗ a) l iprop(S' ∗ a')) : Step c iprop(S ∗ R ∗ a) l iprop(S' ∗ R ∗ a') := by
  refine Step.conseq ?_ (h.one (R := R)) ?_
  · iintro ⟨HS, HR, Ha⟩
    isplitl [HS]; · iexact HS
    isplitl [Ha] <;> iassumption
  · iintro ⟨HS, Ha, HR⟩
    isplitl [HS]; · iexact HS
    isplitl [HR] <;> iassumption
theorem Step.two {c : Dev nD} {S S' a a' b b' R : sProp 𝕄} {l : List (PE F)}
    (h : Step c iprop(S ∗ a ∗ b) l iprop(S' ∗ a' ∗ b')) : Step c iprop(S ∗ a ∗ b ∗ R) l iprop(S' ∗ a' ∗ b' ∗ R) := by
  have h' := h.one (R := R)
  rw [sepA a b R, sepA a' b' R] at h'
  exact h'
theorem Step.two_one {c : Dev nD} {S S' a a' b R : sProp 𝕄} {l : List (PE F)}
    (h : Step c iprop(S ∗ a ∗ b) l iprop(S' ∗ a')) : Step c iprop(S ∗ a ∗ b ∗ R) l iprop(S' ∗ a' ∗ R) := by
  have h' := h.one (R := R)
  rw [sepA a b R] at h'
  exact h'
theorem Step.one_two {c : Dev nD} {S S' a a' b' R : sProp 𝕄} {l : List (PE F)}
    (h : Step c iprop(S ∗ a) l iprop(S' ∗ a' ∗ b')) : Step c iprop(S ∗ a ∗ R) l iprop(S' ∗ a' ∗ b' ∗ R) := by
  have h' := h.one (R := R)
  rw [sepA a' b' R] at h'
  exact h'

end

/-- The states of the four lanes, and of the two halves. -/
abbrev all4 (P : Fin 2 → Fin 2 → sProp 𝕄) : sProp 𝕄 := iprop(P 0 0 ∗ P 0 1 ∗ P 1 0 ∗ P 1 1)
abbrev all2 (P : Fin 2 → sProp 𝕄) : sProp 𝕄 := iprop(P 0 ∗ P 1)

/-- The four lanes one after the other, and the two halves. -/
theorem quad {c : Dev nD} (S : ℕ → sProp 𝕄) {P P' : Fin 2 → Fin 2 → sProp 𝕄} {p : Fin 2 → Fin 2 → List (PE F)}
    (h : ∀ g u : Fin 2, Step c iprop(S (2 * g.val + u.val) ∗ P g u) (p g u) iprop(S (2 * g.val + u.val + 1) ∗ P' g u)) :
    Step c iprop(S 0 ∗ all4 P) (p 0 0 ++ p 0 1 ++ p 1 0 ++ p 1 1) iprop(S 4 ∗ all4 P') :=
  (((h 0 0).one.append (h 0 1).one.rest).append (h 1 0).one.rest.rest).append (h 1 1).rest.rest.rest
theorem both {c : Dev nD} (S : ℕ → sProp 𝕄) {P P' : Fin 2 → sProp 𝕄} {p : Fin 2 → List (PE F)}
    (h : ∀ g : Fin 2, Step c iprop(S g.val ∗ P g) (p g) iprop(S (g.val + 1) ∗ P' g)) :
    Step c iprop(S 0 ∗ all2 P) (p 0 ++ p 1) iprop(S 2 ∗ all2 P') :=
  (h 0).one.append (h 1).rest

/-! ## Lanes -/

/-- The device a lane's copies come from. -/
def prev (h u : Fin 2) (c : Dev nD) : Dev nD := match u with | 0 => left h c | 1 => right h c
/-- The chunk of a lane's sum in round `s` of the reduce-scatter, and of its copy in round `s` of the all-gather. -/
def jS (u : Fin 2) (s : ℕ) : Fin 4 := match u with | 0 => jR s | 1 => jL s
def gS (u : Fin 2) (s : ℕ) : Fin 4 :=
  match u with
  | 0 => match s with | 0 => 1 | 1 => 0 | 2 => 3 | _ => 2
  | 1 => match s with | 0 => 1 | 1 => 2 | 2 => 3 | _ => 0
/-- A lane's copy in round `s` of each. -/
def cpS (h u : Fin 2) (s : Fin 3) : Cp := (h, ⟨2 * s.val + u.val, by omega⟩)
def cpG (h u : Fin 2) (s : Fin 3) : Cp := (h, ⟨9 + 2 * s.val + u.val, by omega⟩)

section
variable (A : Dev nD → Vec F S1024x512 .f32) (B : Dev nD → Vec F S512x1024 .f32)

/-- A lane's sum after round `s`, and what its all-gather brings in round `s`. -/
def accS (h : Fin 2) (c : Dev nD) (u : Fin 2) : ℕ → vB F
  | 0 => part A B c (blkAt h (jS u 0) u c)
  | s + 1 => k0_pay35 (part A B c (blkAt h (jS u (s + 1)) u c)) (accS h (prev h u c) u s)
def outS (h : Fin 2) (c : Dev nD) (u : Fin 2) : ℕ → vB F
  | 0 => own A B h c u
  | s + 1 => outS h (prev h u c) u s

theorem accS_R (h : Fin 2) (s : ℕ) : ∀ c : Dev nD, accS A B h c 0 s = accR A B h c s := by
  induction s with
  | zero => exact fun c => rfl
  | succ s ih => exact fun c => by rw [accR, ← ih]; rfl
theorem accS_L (h : Fin 2) (s : ℕ) : ∀ c : Dev nD, accS A B h c 1 s = accL A B h c s := by
  induction s with
  | zero => exact fun c => rfl
  | succ s ih => exact fun c => by rw [accL, ← ih]; rfl
theorem accS_three (h : Fin 2) (c : Dev nD) (u : Fin 2) : accS A B h c u 3 = ringSum A B h c u := by
  match u with
  | 0 => exact accS_R A B h 3 c
  | 1 => exact accS_L A B h 3 c

theorem val_S (h u : Fin 2) (s : Fin 3) (c : Dev nD) : val A B (cpS h u s) c = accS A B h c u s := by
  match u, s with
  | 0, 0 => rfl
  | 1, 0 => rfl
  | 0, 1 => rfl
  | 1, 1 => rfl
  | 0, 2 => rfl
  | 1, 2 => rfl
theorem val_G (h u : Fin 2) (s : Fin 3) (c : Dev nD) : val A B (cpG h u s) c = outS A B h c u s := by
  match u, s with
  | 0, 0 => rfl
  | 1, 0 => rfl
  | 0, 1 => rfl
  | 1, 1 => rfl
  | 0, 2 => rfl
  | 1, 2 => rfl
theorem outJ_S (h u : Fin 2) (c : Dev nD) : ∀ s : Fin 4, outJ A B h c (gS u s) u = outS A B h c u s := by
  match u with
  | 0 => exact fun s => match s with | 0 => rfl | 1 => rfl | 2 => rfl | 3 => rfl
  | 1 => exact fun s => match s with | 0 => rfl | 1 => rfl | 2 => rfl | 3 => rfl

end

theorem src_S (h u : Fin 2) (s : Fin 3) (c : Dev nD) : src (cpS h u s) c = prev h u c := by
  match u, s with
  | 0, 0 => rfl
  | 1, 0 => rfl
  | 0, 1 => rfl
  | 1, 1 => rfl
  | 0, 2 => rfl
  | 1, 2 => rfl
theorem src_G (h u : Fin 2) (s : Fin 3) (c : Dev nD) : src (cpG h u s) c = prev h u c := by
  match u, s with
  | 0, 0 => rfl
  | 1, 0 => rfl
  | 0, 1 => rfl
  | 1, 1 => rfl
  | 0, 2 => rfl
  | 1, 2 => rfl
theorem srcBlk_S (h u : Fin 2) (s : Fin 3) (c : Dev nD) : srcBlk (cpS h u s) c = blkAt h (jS u s) u c := by
  match u, s with
  | 0, 0 => rfl
  | 1, 0 => rfl
  | 0, 1 => rfl
  | 1, 1 => rfl
  | 0, 2 => rfl
  | 1, 2 => rfl
theorem srcBlk_G (h u : Fin 2) (s : Fin 3) (c : Dev nD) : srcBlk (cpG h u s) c = blkAt h (gS u s) u c := by
  match u, s with
  | 0, 0 => rfl
  | 1, 0 => rfl
  | 0, 1 => rfl
  | 1, 1 => rfl
  | 0, 2 => rfl
  | 1, 2 => rfl
theorem srcM_S (h u : Fin 2) (s : Fin 3) (c : Dev nD) : srcM (cpS h u s) c = zS (blkAt h (jS u s) u c) := by
  unfold srcM; rw [if_pos (show (cpS h u s).2.val < 8 by simp only [cpS]; omega), srcBlk_S]
theorem srcM_G (h u : Fin 2) (s : Fin 3) (c : Dev nD) : srcM (cpG h u s) c = oS (blkAt h (gS u s) u c) := by
  unfold srcM; rw [if_neg (show ¬ (cpG h u s).2.val < 8 by simp only [cpG]; omega), srcBlk_G]
/-- The landing slot of a lane's copy. -/
def slS (u : Fin 2) (s : Fin 3) : Fin 6 := ⟨2 * s.val + u.val, by omega⟩
theorem dstM_S (h u : Fin 2) (s : Fin 3) (c : Dev nD) : dstM (cpS h u s) c = slot h (slS u s) := by
  unfold dstM; rw [dif_pos (show (cpS h u s).2.val < 6 by simp only [cpS]; omega)]; rfl
/-- What comes in by the all-gather is the next block of the lane. -/
theorem blk_next : ∀ (h u : Fin 2) (s : Fin 3) (c : Dev nD), blkAt h (gS u s) u (prev h u c) = blkAt h (gS u (s.val + 1)) u c := by
  decide +kernel
theorem dstM_G (h u : Fin 2) (s : Fin 3) (c : Dev nD) :
    dstM (cpG h u s) (src (cpG h u s) c) = oS (blkAt h (gS u (s.val + 1)) u c) := by
  unfold dstM
  rw [dif_neg (show ¬ (cpG h u s).2.val < 6 by simp only [cpG]; omega), if_neg (show ¬ (cpG h u s).2.val = 6 by simp only [cpG]; omega),
    if_neg (show ¬ (cpG h u s).2.val = 7 by simp only [cpG]; omega), src_G, srcBlk_G, blk_next]

theorem rank_S : ∀ (h u : Fin 2) (s : Fin 3), rank (cpS h u s) = 4 * s.val + (2 * h.val + u.val) := by decide +kernel
theorem rank_G : ∀ (h u : Fin 2) (s : Fin 3), rank (cpG h u s) = 4 * s.val + 18 + (2 * h.val + u.val) := by decide +kernel
theorem late_S : ∀ (h u : Fin 2) (s : Fin 3) (k : Cp), 4 * s.val + 4 ≤ rank k → round (cpS h u s) < round k := by decide +kernel
theorem late_G : ∀ (h u : Fin 2) (s : Fin 3) (k : Cp), 4 * s.val + 18 + 4 ≤ rank k → round (cpG h u s) < round k := by decide +kernel
/-- The exchanges. -/
theorem rank_6 : ∀ h : Fin 2, rank (h, 6) = 12 + h.val := by decide
theorem rank_7 : ∀ h : Fin 2, rank (h, 7) = 14 + h.val := by decide
theorem rank_8 : ∀ h : Fin 2, rank (h, 8) = 16 + h.val := by decide
theorem late_6 : ∀ (h : Fin 2) (k : Cp), 14 ≤ rank k → round (h, 6) < round k := by decide +kernel
theorem late_7 : ∀ (h : Fin 2) (k : Cp), 16 ≤ rank k → round (h, 7) < round k := by decide +kernel
theorem late_8 : ∀ (h : Fin 2) (k : Cp), 18 ≤ rank k → round (h, 8) < round k := by decide +kernel

section
variable (A : Dev nD → Vec F S1024x512 .f32) (B : Dev nD → Vec F S512x1024 .f32)
variable (K : Dev nD × Cl → ℕ)

/-- What every step may use: a device's debts, the records, and the operands. -/
def SS (c : Dev nD) (n : ℕ) : sProp 𝕄 := iprop(ins A B c ∗ at' A B K n c)

theorem addIns {c : Dev nD} {n n' : ℕ} {a a' : sProp 𝕄} {l : List (PE F)}
    (h : Step c iprop(at' A B K n c ∗ a) l iprop(at' A B K n' c ∗ a')) : Step c iprop(SS A B K c n ∗ a) l iprop(SS A B K c n' ∗ a') := by
  unfold SS
  refine Step.conseq ?_ (h.frame (ins A B c)) ?_
  · iintro ⟨⟨Hi, Hat⟩, Ha⟩
    isplitr [Hi]
    · isplitl [Hat] <;> iassumption
    iexact Hi
  · iintro ⟨⟨Hat, Ha⟩, Hi⟩
    isplitr [Ha]
    · isplitl [Hi] <;> iassumption
    iexact Ha
/-- A step that uses nothing of these. -/
theorem addS {c : Dev nD} (n : ℕ) {a a' : sProp 𝕄} {l : List (PE F)} (h : Step c a l a') :
    Step c iprop(SS A B K c n ∗ a) l iprop(SS A B K c n ∗ a') := by
  refine Step.conseq ?_ (h.frame (SS A B K c n)) ?_
  · iintro ⟨H1, H2⟩
    isplitl [H2] <;> iassumption
  · iintro ⟨H1, H2⟩
    isplitl [H2] <;> iassumption

/-- A product. -/
theorem do_mm (c : Dev nD) (n : ℕ) (b : Blk) :
    Step c iprop(SS A B K c n ∗ some' c (zS b)) [mm b] iprop(SS A B K c n ∗ holds c (zS b) (part A B c b)) := by
  unfold SS
  refine Step.conseq ?_ ((step_mm A B c b).frame (at' A B K n c)) ?_
  · iintro ⟨⟨Hi, Hat⟩, Ha⟩
    isplitr [Hat]
    · isplitl [Hi] <;> iassumption
    iexact Hat
  · iintro ⟨⟨Hi, Ha⟩, Hat⟩
    isplitr [Ha]
    · isplitl [Hi] <;> iassumption
    iexact Ha
/-- A copy started, its source and where it stands in the order given. -/
theorem do_send (c : Dev nD) (n : ℕ) (k : Cp) (M : Memref sig .tc .vmem S64x1024 .bf16) (X : vB F) (hn : rank k = n) (hM : srcM k c = M)
    (hX : val A B k c = X) :
    Step c iprop(SS A B K c n ∗ holds c M X ∗ job k c) [send k c] iprop(SS A B K c (n + 1) ∗ fly k c) := by
  subst hn hM hX
  refine addIns A B K (Step.conseq ?_ (step_send A B K k c) (Entails.refl _))
  iintro ⟨H1, H2, H3⟩
  isplitl [H1]; · iexact H1
  isplitl [H3] <;> iassumption
/-- A copy finished. -/
theorem do_fin (c : Dev nD) (n : ℕ) (k : Cp) (M M' : Memref sig .tc .vmem S64x1024 .bf16) (X X' : vB F) (hn : ∀ k', n ≤ rank k' → round k < round k')
    (hM : srcM k c = M) (hX : val A B k c = X) (hM' : dstM k (src k c) = M') (hX' : val A B k (src k c) = X') :
    Step c iprop(SS A B K c n ∗ fly k c) [fin k c] iprop(SS A B K c n ∗ gone k c ∗ holds c M X ∗ holds c M' X') := by
  subst hM hX hM' hX'
  exact addIns A B K (step_fin A B K n k c hn)

/-- A copy of which only the two semaphores at zero and the two buffers matter any longer. -/
def junk (k : Cp) (c : Dev nD) : sProp 𝕄 := iprop(gone (F := F) k c ∗ some' (F := F) c (srcM k c) ∗ some' (F := F) c (dstM k (src k c)))

/-! ### The reduce-scatter -/

abbrev Zq (c : Dev nD) (s : ℕ) (h u : Fin 2) : sProp 𝕄 := some' (F := F) c (zS (blkAt h (jS u s) u c))
abbrev Zp (c : Dev nD) (s : ℕ) (h u : Fin 2) : sProp 𝕄 := holds c (zS (blkAt h (jS u s) u c)) (part A B c (blkAt h (jS u s) u c))
abbrev Za (c : Dev nD) (s : ℕ) (h u : Fin 2) : sProp 𝕄 := holds c (zS (blkAt h (jS u s) u c)) (accS A B h c u s)

theorem lane_send (c : Dev nD) (s : Fin 3) (h u : Fin 2) :
    Step c iprop(SS A B K c (4 * s.val + (2 * h.val + u.val)) ∗ Za A B c s h u ∗ job (cpS h u s) c) [send (cpS h u s) c]
      iprop(SS A B K c (4 * s.val + (2 * h.val + u.val) + 1) ∗ fly (cpS h u s) c) :=
  do_send A B K c _ _ _ _ (rank_S h u s) (srcM_S h u s c) (val_S A B h u s c)
theorem lane_fin (c : Dev nD) (s : Fin 3) (h u : Fin 2) :
    Step c iprop(SS A B K c (4 * s.val + 4) ∗ fly (cpS h u s) c ∗ Zp A B c (s.val + 1) h u)
      [fin (cpS h u s) c, acc (blkAt h (jS u (s.val + 1)) u c) h (slS u s)]
      iprop(SS A B K c (4 * s.val + 4) ∗ junk (cpS h u s) c ∗ Za A B c (s.val + 1) h u) := by
  have h1 := (do_fin A B K c (4 * s.val + 4) (cpS h u s) _ _ _ _ (late_S h u s) rfl rfl
    (dstM_S h u s _) ((val_S A B h u s _).trans (by rw [src_S]))).one (R := Zp A B c (s.val + 1) h u)
  have h2 := (addS A B K (4 * s.val + 4) (step_acc c (blkAt h (jS u (s.val + 1)) u c) h (slS u s) (part A B c (blkAt h (jS u (s.val + 1)) u c))
    (accS A B h (prev h u c) u s))).one (R := iprop(gone (cpS h u s) c ∗ holds c (srcM (cpS h u s) c) (val A B (cpS h u s) c)))
  refine Step.append h1 (Step.conseq ?_ h2 ?_)
  · iintro ⟨H1, ⟨H2, H3, H4⟩, H5⟩
    isplitl [H1]; · iexact H1
    isplitl [H5 H4]
    · isplitl [H5] <;> iassumption
    isplitl [H2] <;> iassumption
  · unfold junk some'
    rw [dstM_S]
    iintro ⟨H1, ⟨H5, H4⟩, H2, H3⟩
    isplitl [H1]; · iexact H1
    isplitr [H5]
    · isplitl [H2]; · iexact H2
      isplitl [H3]
      · iexists _; iexact H3
      iexists _; iexact H4
    iexact H5

/-- The reduce-scatter of the four lanes. -/
def progS (c : Dev nD) : List (PE F) :=
  let p (q : Fin 2 → Fin 2 → List (PE F)) : List (PE F) := q 0 0 ++ q 0 1 ++ q 1 0 ++ q 1 1
  let m (s : ℕ) : List (PE F) := p fun h u => [mm (blkAt h (jS u s) u c)]
  let f (s : Fin 3) : List (PE F) := p fun h u => [fin (cpS h u s) c, acc (blkAt h (jS u (s.val + 1)) u c) h (slS u s)]
  let b (s : Fin 3) : List (PE F) := p fun h u => [send (cpS h u s) c]
  m 0 ++ b 0 ++ m 1 ++ m 2 ++ m 3 ++ f 0 ++ b 1 ++ f 1 ++ b 2 ++ f 2

/-- What a lane starts with and ends with. -/
def preS (c : Dev nD) (h u : Fin 2) : sProp 𝕄 :=
  iprop(Zq c 0 h u ∗ job (F := F) (cpS h u 0) c ∗ Zq c 1 h u ∗ job (cpS h u 1) c ∗ Zq c 2 h u ∗ job (cpS h u 2) c ∗ Zq c 3 h u)
def postS (c : Dev nD) (h u : Fin 2) : sProp 𝕄 :=
  iprop(junk (cpS h u 0) c ∗ junk (cpS h u 1) c ∗ junk (cpS h u 2) c ∗ holds c (zS (blkAt h 1 u c)) (ringSum A B h c u))

theorem walkS (c : Dev nD) : Step c iprop(SS A B K c 0 ∗ all4 (preS (F := F) c)) (progS c) iprop(SS A B K c 12 ∗ all4 (postS A B c)) := by
  have h0 := quad (c := c) (fun _ => SS A B K c 0) fun h u => (do_mm A B K c 0 (blkAt h (jS u 0) u c)).one
    (R := iprop(job (cpS h u 0) c ∗ Zq c 1 h u ∗ job (cpS h u 1) c ∗ Zq c 2 h u ∗ job (cpS h u 2) c ∗ Zq c 3 h u))
  have h1 := quad (c := c) (fun i => SS A B K c (4 * 0 + i)) fun h u => (lane_send A B K c 0 h u).two_one
    (R := iprop(Zq c 1 h u ∗ job (cpS h u 1) c ∗ Zq c 2 h u ∗ job (cpS h u 2) c ∗ Zq c 3 h u))
  have h2 := quad (c := c) (fun _ => SS A B K c 4) fun h u => ((do_mm A B K c 4 (blkAt h (jS u 1) u c)).one
    (R := iprop(job (cpS h u 1) c ∗ Zq c 2 h u ∗ job (cpS h u 2) c ∗ Zq c 3 h u))).rest (R := fly (cpS h u 0) c)
  have h3 := quad (c := c) (fun _ => SS A B K c 4) fun h u => (((((do_mm A B K c 4 (blkAt h (jS u 2) u c)).one
    (R := iprop(job (cpS h u 2) c ∗ Zq c 3 h u))).rest (R := job (cpS h u 1) c))).rest (R := Zp A B c 1 h u)).rest (R := fly (cpS h u 0) c)
  have h4 := quad (c := c) (fun _ => SS A B K c 4) fun h u => (((((do_mm A B K c 4 (blkAt h (jS u 3) u c)).rest
    (R := job (cpS h u 2) c)).rest (R := Zp A B c 2 h u)).rest (R := job (cpS h u 1) c)).rest (R := Zp A B c 1 h u)).rest (R := fly (cpS h u 0) c)
  have h5 := quad (c := c) (fun _ => SS A B K c (4 * 0 + 4)) fun h u => (lane_fin A B K c 0 h u).two
    (R := iprop(job (cpS h u 1) c ∗ Zp A B c 2 h u ∗ job (cpS h u 2) c ∗ Zp A B c 3 h u))
  have h6 := quad (c := c) (fun i => SS A B K c (4 * 1 + i)) fun h u => ((lane_send A B K c 1 h u).two_one
    (R := iprop(Zp A B c 2 h u ∗ job (cpS h u 2) c ∗ Zp A B c 3 h u))).rest (R := junk (cpS h u 0) c)
  have h7 := quad (c := c) (fun _ => SS A B K c (4 * 1 + 4)) fun h u => ((lane_fin A B K c 1 h u).two
    (R := iprop(job (cpS h u 2) c ∗ Zp A B c 3 h u))).rest (R := junk (cpS h u 0) c)
  have h8 := quad (c := c) (fun i => SS A B K c (4 * 2 + i)) fun h u => (((lane_send A B K c 2 h u).two_one
    (R := Zp A B c 3 h u)).rest (R := junk (cpS h u 1) c)).rest (R := junk (cpS h u 0) c)
  have h9 := quad (c := c) (fun _ => SS A B K c (4 * 2 + 4)) fun h u => ((lane_fin A B K c 2 h u).rest
    (R := junk (cpS h u 1) c)).rest (R := junk (cpS h u 0) c)
  have h := ((((((((h0.append h1).append h2).append h3).append h4).append h5).append h6).append h7).append h8).append h9
  have e : all4 (postS A B c) = all4 fun h u => iprop(junk (cpS h u 0) c ∗ junk (cpS h u 1) c ∗ junk (cpS h u 2) c ∗ Za A B c 3 h u) := by
    have e (h u : Fin 2) : postS A B c h u = iprop(junk (cpS h u 0) c ∗ junk (cpS h u 1) c ∗ junk (cpS h u 2) c ∗ Za A B c 3 h u) := by
      unfold postS
      rw [← accS_three]
      match u with
      | 0 => rfl
      | 1 => rfl
    simp only [all4, e]
  rw [e]
  exact h

end

end Cert.Silu

end
-- ==== Proof.Walk.lean ====
/-
The exchanges of the two halves, the all-gather of the four lanes, and the whole program by its parts.
-/
module

public import proofs.«01_k».proof.Proof.Lanes

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → Vec F S1024x512 .f32) (B : Dev nD → Vec F S512x1024 .f32)
variable (K : Dev nD × Cl → ℕ)

/-! ## The exchanges -/

/-- The block of a half's own chunk a device keeps, and the other. -/
abbrev bk (h : Fin 2) (c : Dev nD) : Blk := blkAt h 1 (bit h c) c
abbrev bo (h : Fin 2) (c : Dev nD) : Blk := blkAt h 1 (1 - bit h c) c

theorem src_6 (h : Fin 2) (c : Dev nD) : src (h, 6) c = near h c := rfl
theorem src_7 (h : Fin 2) (c : Dev nD) : src (h, 7) c = far h c := rfl
theorem src_8 (h : Fin 2) (c : Dev nD) : src (h, 8) c = near h c := rfl
theorem blk_8 (h : Fin 2) (c : Dev nD) : srcBlk (h, 8) (near h c) = bo h c := by
  show blkAt h 1 (bit h (near h c)) (near h c) = _
  unfold bo blkAt; rw [pos_near, bit_near]
theorem val_6 (h : Fin 2) (c : Dev nD) : val A B (h, 6) (near h c) = ringSum A B h (near h c) (bit h c) := by
  show ringSum A B h (near h c) (1 - bit h (near h c)) = _
  rw [bit_near, show ∀ b : Fin 2, 1 - (1 - b) = b by decide]

/-- The other block is sent to the near partner. -/
theorem ex_send6 (c : Dev nD) (h : Fin 2) :
    Step c iprop(SS A B K c (12 + h.val) ∗ holds c (zS (bo h c)) (ringSum A B h c (1 - bit h c)) ∗ job (h, 6) c) [send (h, 6) c]
      iprop(SS A B K c (12 + h.val + 1) ∗ fly (h, 6) c) :=
  do_send A B K c _ _ _ _ (rank_6 h) rfl rfl
/-- What the near partner sent is added. -/
theorem ex_fin6 (c : Dev nD) (h : Fin 2) :
    Step c iprop(SS A B K c 14 ∗ fly (h, 6) c ∗ holds c (zS (bk h c)) (ringSum A B h c (bit h c))) (finEx h 6 (m1M h) c)
      iprop(SS A B K c 14 ∗ junk (h, 6) c ∗ holds c (zS (bk h c)) (nearSum A B h c)) := by
  have h1 := (do_fin A B K c 14 (h, 6) _ _ _ _ (late_6 h) rfl rfl (show dstM (h, 6) (near h c) = m1M h from rfl) (val_6 A B h c)).one
    (R := holds c (zS (bk h c)) (ringSum A B h c (bit h c)))
  have h2 := (addS A B K 14 (step_accM c (bk h c) (m1M h) (ringSum A B h c (bit h c)) (ringSum A B h (near h c) (bit h c)))).one
    (R := iprop(gone (h, 6) c ∗ holds c (srcM (h, 6) c) (val A B (h, 6) c)))
  refine Step.append h1 (Step.conseq ?_ h2 ?_)
  · iintro ⟨H1, ⟨H2, H3, H4⟩, H5⟩
    isplitl [H1]; · iexact H1
    isplitl [H5 H4]
    · isplitl [H5] <;> iassumption
    isplitl [H2] <;> iassumption
  · unfold junk some'
    rw [show dstM (h, 6) (src (h, 6) c) = m1M h from rfl]
    iintro ⟨H1, ⟨H5, H4⟩, H2, H3⟩
    isplitl [H1]; · iexact H1
    isplitr [H5]
    · isplitl [H2]; · iexact H2
      isplitl [H3]
      · iexists _; iexact H3
      iexists _; iexact H4
    iexact H5
/-- The sum of the two is sent to the far partner, and what that one sent is added. -/
theorem ex_send7 (c : Dev nD) (h : Fin 2) :
    Step c iprop(SS A B K c (14 + h.val) ∗ holds c (zS (bk h c)) (nearSum A B h c) ∗ job (h, 7) c) [send (h, 7) c]
      iprop(SS A B K c (14 + h.val + 1) ∗ fly (h, 7) c) :=
  do_send A B K c _ _ _ _ (rank_7 h) rfl rfl
theorem ex_fin7 (c : Dev nD) (h : Fin 2) :
    Step c iprop(SS A B K c 16 ∗ fly (h, 7) c) (finEx h 7 (m2M h) c)
      iprop(SS A B K c 16 ∗ (gone (h, 7) c ∗ some' c (m2M h)) ∗ holds c (zS (bk h c)) (farSum A B h c)) := by
  have h1 := do_fin A B K c 16 (h, 7) (zS (bk h c)) _ (nearSum A B h c) (nearSum A B h (far h c)) (late_7 h) rfl rfl (show dstM (h, 7) (far h c) = m2M h from rfl) rfl
  have h2 := (addS A B K 16 (step_accM c (bk h c) (m2M h) (nearSum A B h c) (nearSum A B h (far h c)))).one (R := gone (h, 7) c)
  refine Step.append h1 (Step.conseq ?_ h2 ?_)
  · iintro ⟨H1, H2, H3, H4⟩
    isplitl [H1]; · iexact H1
    isplitl [H3 H4]
    · isplitl [H3] <;> iassumption
    iexact H2
  · unfold some'
    iintro ⟨H1, ⟨H5, H4⟩, H2⟩
    isplitl [H1]; · iexact H1
    isplitr [H5]
    · isplitl [H2]; · iexact H2
      iexists _; iexact H4
    iexact H5
/-- The activation. -/
theorem ex_silu (c : Dev nD) (h : Fin 2) :
    Step c iprop(SS A B K c 16 ∗ holds c (zS (bk h c)) (farSum A B h c) ∗ some' c (oS (bk h c))) [silu (bk h c)]
      iprop(SS A B K c 16 ∗ holds c (zS (bk h c)) (farSum A B h c) ∗ holds c (oS (bk h c)) (res A B h c)) :=
  addS A B K 16 (step_silu c (bk h c) (farSum A B h c))
/-- The result is exchanged with the near partner. -/
theorem ex_send8 (c : Dev nD) (h : Fin 2) :
    Step c iprop(SS A B K c (16 + h.val) ∗ holds c (oS (bk h c)) (res A B h c) ∗ job (h, 8) c) [send (h, 8) c]
      iprop(SS A B K c (16 + h.val + 1) ∗ fly (h, 8) c) :=
  do_send A B K c _ _ _ _ (rank_8 h) rfl rfl
theorem ex_fin8 (c : Dev nD) (h : Fin 2) :
    Step c iprop(SS A B K c 18 ∗ fly (h, 8) c) [fin (h, 8) c]
      iprop(SS A B K c 18 ∗ gone (h, 8) c ∗ holds c (oS (bk h c)) (res A B h c) ∗ holds c (oS (bo h c)) (res A B h (near h c))) :=
  do_fin A B K c 18 (h, 8) _ _ _ _ (late_8 h) rfl rfl (by
    rw [src_8]
    show oS (srcBlk (h, 8) (near h c)) = _
    rw [blk_8]) rfl

/-- The exchanges of the two halves. -/
def progX (c : Dev nD) : List (PE F) :=
  let p (q : Fin 2 → List (PE F)) : List (PE F) := q 0 ++ q 1
  p (fun h => [send (h, 6) c]) ++ p (fun h => finEx h 6 (m1M h) c) ++ p (fun h => [send (h, 7) c]) ++ p (fun h => finEx h 7 (m2M h) c)
    ++ p (fun h => [silu (bk h c)]) ++ p (fun h => [send (h, 8) c]) ++ p (fun h => [fin (h, 8) c])

def preX (c : Dev nD) (h : Fin 2) : sProp 𝕄 :=
  iprop(holds c (zS (bo h c)) (ringSum A B h c (1 - bit h c)) ∗ job (h, 6) c ∗ holds c (zS (bk h c)) (ringSum A B h c (bit h c)) ∗ job (h, 7) c
    ∗ some' c (oS (bk h c)) ∗ job (h, 8) c)
def postX (c : Dev nD) (h : Fin 2) : sProp 𝕄 :=
  iprop(junk (h, 6) c ∗ (gone (h, 7) c ∗ some' c (m2M h)) ∗ holds c (zS (bk h c)) (farSum A B h c)
    ∗ gone (h, 8) c ∗ holds c (oS (bk h c)) (res A B h c) ∗ holds c (oS (bo h c)) (res A B h (near h c)))

theorem walkX (c : Dev nD) : Step c iprop(SS A B K c 12 ∗ all2 (preX A B c)) (progX c) iprop(SS A B K c 18 ∗ all2 (postX A B c)) := by
  have h0 := both (c := c) (fun i => SS A B K c (12 + i)) fun h => (ex_send6 A B K c h).two_one
    (R := iprop(holds c (zS (bk h c)) (ringSum A B h c (bit h c)) ∗ job (h, 7) c ∗ some' c (oS (bk h c)) ∗ job (h, 8) c))
  have h1 := both (c := c) (fun _ => SS A B K c 14) fun h => (ex_fin6 A B K c h).two
    (R := iprop(job (h, 7) c ∗ some' c (oS (bk h c)) ∗ job (h, 8) c))
  have h2 := both (c := c) (fun i => SS A B K c (14 + i)) fun h => ((ex_send7 A B K c h).two_one
    (R := iprop(some' c (oS (bk h c)) ∗ job (h, 8) c))).rest (R := junk (h, 6) c)
  have h3 := both (c := c) (fun _ => SS A B K c 16) fun h => ((ex_fin7 A B K c h).one_two
    (R := iprop(some' c (oS (bk h c)) ∗ job (h, 8) c))).rest (R := junk (h, 6) c)
  have h4 := both (c := c) (fun _ => SS A B K c 16) fun h => (((ex_silu A B K c h).two (R := job (h, 8) c)).rest
    (R := iprop(gone (h, 7) c ∗ some' c (m2M h)))).rest (R := junk (h, 6) c)
  have h5 := both (c := c) (fun i => SS A B K c (16 + i)) fun h => (((ex_send8 A B K c h).rest (R := holds c (zS (bk h c)) (farSum A B h c))).rest
    (R := iprop(gone (h, 7) c ∗ some' c (m2M h)))).rest (R := junk (h, 6) c)
  have h6 := both (c := c) (fun _ => SS A B K c 18) fun h => (((ex_fin8 A B K c h).rest (R := holds c (zS (bk h c)) (farSum A B h c))).rest
    (R := iprop(gone (h, 7) c ∗ some' c (m2M h)))).rest (R := junk (h, 6) c)
  exact (((((h0.append h1).append h2).append h3).append h4).append h5).append h6

/-! ## The all-gather -/

abbrev Oq (c : Dev nD) (s : ℕ) (h u : Fin 2) : sProp 𝕄 := holds c (oS (blkAt h (gS u s) u c)) (outS A B h c u s)

theorem lane_sendG (c : Dev nD) (s : Fin 3) (h u : Fin 2) :
    Step c iprop(SS A B K c (4 * s.val + 18 + (2 * h.val + u.val)) ∗ Oq A B c s h u ∗ job (cpG h u s) c) [send (cpG h u s) c]
      iprop(SS A B K c (4 * s.val + 18 + (2 * h.val + u.val) + 1) ∗ fly (cpG h u s) c) :=
  do_send A B K c _ _ _ _ (rank_G h u s) (srcM_G h u s c) (val_G A B h u s c)
theorem lane_finG (c : Dev nD) (s : Fin 3) (h u : Fin 2) :
    Step c iprop(SS A B K c (4 * s.val + 18 + 4) ∗ fly (cpG h u s) c) [fin (cpG h u s) c]
      iprop(SS A B K c (4 * s.val + 18 + 4) ∗ (gone (cpG h u s) c ∗ Oq A B c s h u) ∗ Oq A B c (s.val + 1) h u) := by
  have h1 := do_fin A B K c (4 * s.val + 18 + 4) (cpG h u s) _ _ _ _ (late_G h u s) (srcM_G h u s c) (val_G A B h u s c)
    (dstM_G h u s c) ((val_G A B h u s _).trans (by rw [src_G]))
  rw [sepA]
  exact h1

/-- The all-gather of the four lanes. -/
def progG (c : Dev nD) : List (PE F) :=
  let p (q : Fin 2 → Fin 2 → List (PE F)) : List (PE F) := q 0 0 ++ q 0 1 ++ q 1 0 ++ q 1 1
  let f (s : Fin 3) : List (PE F) := p fun h u => [fin (cpG h u s) c]
  let b (s : Fin 3) : List (PE F) := p fun h u => [send (cpG h u s) c]
  b 0 ++ f 0 ++ b 1 ++ f 1 ++ b 2 ++ f 2

def preG (c : Dev nD) (h u : Fin 2) : sProp 𝕄 :=
  iprop(Oq A B c 0 h u ∗ job (F := F) (cpG h u 0) c ∗ job (cpG h u 1) c ∗ job (cpG h u 2) c)
def postG (c : Dev nD) (h u : Fin 2) : sProp 𝕄 :=
  iprop((gone (cpG h u 0) c ∗ Oq A B c 0 h u) ∗ (gone (cpG h u 1) c ∗ Oq A B c 1 h u) ∗ (gone (cpG h u 2) c ∗ Oq A B c 2 h u) ∗ Oq A B c 3 h u)

theorem walkG (c : Dev nD) : Step c iprop(SS A B K c 18 ∗ all4 (preG A B c)) (progG c) iprop(SS A B K c 30 ∗ all4 (postG A B c)) := by
  have h0 := quad (c := c) (fun i => SS A B K c (4 * 0 + 18 + i)) fun h u => (lane_sendG A B K c 0 h u).two_one
    (R := iprop(job (cpG h u 1) c ∗ job (cpG h u 2) c))
  have h1 := quad (c := c) (fun _ => SS A B K c (4 * 0 + 18 + 4)) fun h u => (lane_finG A B K c 0 h u).one_two
    (R := iprop(job (cpG h u 1) c ∗ job (cpG h u 2) c))
  have h2 := quad (c := c) (fun i => SS A B K c (4 * 1 + 18 + i)) fun h u => ((lane_sendG A B K c 1 h u).two_one
    (R := job (cpG h u 2) c)).rest (R := iprop(gone (cpG h u 0) c ∗ Oq A B c 0 h u))
  have h3 := quad (c := c) (fun _ => SS A B K c (4 * 1 + 18 + 4)) fun h u => ((lane_finG A B K c 1 h u).one_two
    (R := job (cpG h u 2) c)).rest (R := iprop(gone (cpG h u 0) c ∗ Oq A B c 0 h u))
  have h4 := quad (c := c) (fun i => SS A B K c (4 * 2 + 18 + i)) fun h u => ((lane_sendG A B K c 2 h u).rest
    (R := iprop(gone (cpG h u 1) c ∗ Oq A B c 1 h u))).rest (R := iprop(gone (cpG h u 0) c ∗ Oq A B c 0 h u))
  have h5 := quad (c := c) (fun _ => SS A B K c (4 * 2 + 18 + 4)) fun h u => ((lane_finG A B K c 2 h u).rest
    (R := iprop(gone (cpG h u 1) c ∗ Oq A B c 1 h u))).rest (R := iprop(gone (cpG h u 0) c ∗ Oq A B c 0 h u))
  exact ((((h0.append h1).append h2).append h3).append h4).append h5

/-! ## The program -/

/-- The statements of a device, by these parts. -/
theorem clean_parts (c : Dev nD) : clean (F := F) c = handshake c ++ ([castB] ++ (progS c ++ progX c ++ progG c)) := by
  unfold clean progS progX progG firstMM nextMM midMM lastMM start2 fin2 finAcc
  simp only [List.append_assoc, List.cons_append, List.nil_append]
  chain_rfl

end

end Cert.Silu

end
-- ==== Proof.Bufs.lean ====
/-
Buffers cut in pieces and put together again: the partial results and the result by blocks, the landing buffers by slots.
-/
module

public import proofs.«01_k».proof.Proof.Walk

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and the pieces it is cut in -/

section
variable {s : Shape} {e : EltTy} {T : Type} [Fintype T] [DecidableEq T] (c : Dev nD) (M : Memref sig .tc .vmem s e) (r : T → Rect s)
  (hr : ∀ t a, (r t).stride a = 1)

/-- Contents given piece by piece are those of one buffer. -/
theorem glue [Nonempty (Elt F e)] (hd : ∀ t t', t ≠ t' → Disjoint (r t).set (r t').set) (y : (t : T) → (r t).shape.Idx → Elt F e) : ∃ X : s.Idx → Elt F e, ∀ t j, X ((r t).emb j) = y t j := by
  classical
  refine ⟨fun i => if h : ∃ p : (t : T) × (r t).shape.Idx, (r p.1).emb p.2 = i then y h.choose.1 h.choose.2 else Classical.arbitrary _, fun t j => ?_⟩
  have h : ∃ p : (t : T) × (r t).shape.Idx, (r p.1).emb p.2 = (r t).emb j := ⟨⟨t, j⟩, rfl⟩
  dsimp only
  rw [dif_pos h]
  have hp := h.choose_spec
  generalize h.choose = p at hp
  obtain ⟨t', j'⟩ := p
  have ht : t' = t := by
    by_contra hne
    have hdis := Finset.disjoint_left.mp (hd t' t hne)
    refine hdis (a := (r t).emb j) ?_ ?_
    · rw [← Rect.map_emb_univ, Finset.mem_map]; exact ⟨j', Finset.mem_univ _, hp⟩
    · rw [← Rect.map_emb_univ, Finset.mem_map]; exact ⟨j, Finset.mem_univ _, rfl⟩
  subst ht
  rw [(r t').emb.injective hp]

/-- A buffer of any contents is its pieces of any contents. -/
theorem some_rects (hd : ∀ t t', t ≠ t' → Disjoint (r t).set (r t').set) (hcov : (Finset.univ : Finset T).biUnion (fun t => (r t).set) = Finset.univ) : iprop(∃ X, has (F := F) c M X) ⊢ bigSep Finset.univ fun t => iprop(∃ Y, has (F := F) c (M.slice (r t) (hr t)) Y) := by
  iintro ⟨%X, H⟩
  have h2 (t : T) : has (F := F) c (M.slice (r t) (hr t)) (fun j => X ((r t).emb j)) ⊢ iprop(∃ Y, has (F := F) c (M.slice (r t) (hr t)) Y) := by
    iintro H
    iexists (fun j => X ((r t).emb j))
    iexact H
  have h1 : has c M X ⊢ bigSep Finset.univ fun t => iprop(∃ Y, has (F := F) c (M.slice (r t) (hr t)) Y) :=
    (owns_rects (Ix := Unit) (Name := ℕ) (U := UU) (Lvl := ℕ) (c : Thread nD τ) M fullShare r hr hd hcov X).trans
      (bigSep_mono fun t _ => h2 t)
  iapply h1
  iexact H
theorem rects_some [∀ e, Nonempty (Elt F e)] (hd : ∀ t t', t ≠ t' → Disjoint (r t).set (r t').set) (hcov : (Finset.univ : Finset T).biUnion (fun t => (r t).set) = Finset.univ) :
    (bigSep Finset.univ fun t => iprop(∃ Y, has (F := F) c (M.slice (r t) (hr t)) Y)) ⊢ iprop(∃ X, has (F := F) c M X) := by
  have h0 := bigSep_exists_pi Finset.univ (fun (t : T) (Y : (r t).shape.Idx → Elt F e) => has (F := F) c (M.slice (r t) (hr t)) Y)
  refine h0.trans ?_
  iintro ⟨%y, H⟩
  obtain ⟨X, hX⟩ := glue r hd y
  have h1 : (bigSep Finset.univ fun t => has (F := F) c (M.slice (r t) (hr t)) (y t)) ⊢ has c M X := by
    refine BIBase.Entails.trans (Entails.of_eq (bigSep_congr fun t _ => ?_))
      (owns_of_rects (Ix := Unit) (Name := ℕ) (U := UU) (Lvl := ℕ) (c : Thread nD τ) M fullShare r hr hd hcov X)
    unfold has
    rw [funext fun j => hX t j]
  iexists X
  iapply h1
  iexact H

end

/-! ## The pieces of the buffers -/

theorem slot_emb0 (i : Fin 6) (j : S1x64x1024.Idx) : (((slotRect i (slot_inb i)).emb j) 0).val = i.val := by
  have h : (((slotRect i (slot_inb i)).emb j) 0).val = (![i.val, 0, 0] : Fin 3 → ℕ) 0 + 1 * (j 0).val := Rect.emb_apply _ _ _
  have hj : (j 0).val < 1 := (j 0).isLt
  rw [h]; simp; omega
theorem slot_disjoint (i i' : Fin 6) (h : i ≠ i') : Disjoint (slotRect i (slot_inb i)).set (slotRect i' (slot_inb i')).set := by
  rw [Finset.disjoint_left]
  intro x hx hx'
  rw [← Rect.map_emb_univ, Finset.mem_map] at hx hx'
  obtain ⟨j, -, rfl⟩ := hx
  obtain ⟨j', -, e⟩ := hx'
  refine h (Fin.ext ?_)
  rw [← slot_emb0 i j, ← slot_emb0 i' j', e]
theorem slot_cover : (Finset.univ : Finset (Fin 6)).biUnion (fun i => (slotRect i (slot_inb i)).set) = Finset.univ := by
  refine Finset.eq_univ_of_forall fun x => Finset.mem_biUnion.mpr ⟨⟨(x 0).val, (x 0).isLt⟩, Finset.mem_univ _, ?_⟩
  rw [← Rect.map_emb_univ, Finset.mem_map]
  refine ⟨fun a => match a with | 0 => ⟨0, show 0 < 1 by omega⟩ | 1 => ⟨(x 1).val, (x 1).isLt⟩ | 2 => ⟨(x 2).val, (x 2).isLt⟩, Finset.mem_univ _, funext fun a => Fin.ext ?_⟩
  refine (Rect.emb_apply _ _ _).trans ?_
  match a with
  | 0 => show (x 0).val + 1 * 0 = _; omega
  | 1 => show 0 + 1 * (x 1).val = _; omega
  | 2 => show 0 + 1 * (x 2).val = _; omega

/-- A slot is its place in the landing buffer. -/
theorem slot_some (c : Dev nD) (g : Fin 2) (i : Fin 6) :
    some' (F := F) c (slot g i) = iprop(∃ Y, has (F := F) c ((cM g).slice (slotRect i (slot_inb i)) (fun _ => rfl)) Y) := by
  have hset : (slot g i).view.set = ((cM g).slice (slotRect i (slot_inb i)) (fun _ => rfl) : Memref sig .tc .vmem S1x64x1024 .bf16).view.set := View.set_reshape _ _
  have h1 : some' (F := F) c (slot g i) ⊢ iprop(∃ Y, has (F := F) c ((cM g).slice (slotRect i (slot_inb i)) (fun _ => rfl)) Y) := by
    unfold some' holds has owns
    iintro ⟨%X, %f, %hf, H⟩
    iexists _; iexists f
    isplitr; · ipureintro; rfl
    rw [← hset]; iexact H
  have h2 : iprop(∃ Y, has (F := F) c ((cM g).slice (slotRect i (slot_inb i)) (fun _ => rfl)) Y) ⊢ some' (F := F) c (slot g i) := by
    unfold some' holds has owns
    iintro ⟨%X, %f, %hf, H⟩
    iexists _; iexists f
    isplitr; · ipureintro; rfl
    rw [hset]; iexact H
  exact BI.equiv_iff.mp ⟨h1, h2⟩

section
variable (c : Dev nD)

theorem split_z : iprop(∃ X, has (F := F) c zM X) ⊢ bigSep Finset.univ fun b : Blk => some' (F := F) c (zS b) :=
  some_rects c zM blkRect (fun _ _ => rfl) blk_disjoint blk_cover
theorem join_z [∀ e, Nonempty (Elt F e)] : (bigSep Finset.univ fun b : Blk => some' (F := F) c (zS b)) ⊢ iprop(∃ X, has (F := F) c zM X) :=
  rects_some c zM blkRect (fun _ _ => rfl) blk_disjoint blk_cover
theorem split_o : iprop(∃ X, has (F := F) c oM X) ⊢ bigSep Finset.univ fun b : Blk => some' (F := F) c (oS b) :=
  some_rects c oM blkRect (fun _ _ => rfl) blk_disjoint blk_cover
theorem join_o [∀ e, Nonempty (Elt F e)] (f : Blk → vB F) : (bigSep Finset.univ fun b : Blk => holds (F := F) c (oS b) (f b)) ⊢ has (F := F) c oM (ofBlks f) := by
  refine BIBase.Entails.trans (Entails.of_eq (bigSep_congr fun b _ => ?_))
    (owns_of_rects (Ix := Unit) (Name := ℕ) (U := UU) (Lvl := ℕ) (c : Thread nD τ) oM fullShare blkRect (fun _ _ => rfl) blk_disjoint blk_cover (ofBlks f))
  exact congrArg (owns (c : Thread nD τ) (oS b) fullShare) (funext fun j => (ofBlks_emb f b j).symm)
theorem split_c (g : Fin 2) : iprop(∃ X, has (F := F) c (cM g) X) ⊢ bigSep Finset.univ fun i : Fin 6 => some' (F := F) c (slot g i) := by
  rw [bigSep_congr fun i _ => slot_some c g i]
  exact some_rects c (cM g) (fun i : Fin 6 => slotRect i (slot_inb i)) (fun _ _ => rfl) slot_disjoint slot_cover
theorem join_c [∀ e, Nonempty (Elt F e)] (g : Fin 2) : (bigSep Finset.univ fun i : Fin 6 => some' (F := F) c (slot g i)) ⊢ iprop(∃ X, has (F := F) c (cM g) X) := by
  rw [bigSep_congr fun i _ => slot_some c g i]
  exact rects_some c (cM g) (fun i : Fin 6 => slotRect i (slot_inb i)) (fun _ _ => rfl) slot_disjoint slot_cover

end

end Cert.Silu

end
-- ==== Proof.Deal.lean ====
/-
What a device holds, regrouped: copies, blocks and slots by lanes and halves.
-/
module

public import proofs.«01_k».proof.Proof.Bufs

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regrouping -/

instance sep_assoc_i : Std.Associative (α := sProp 𝕄) (fun P Q => iprop(P ∗ Q)) := ⟨sepA⟩
instance sep_comm_i : Std.Commutative (α := sProp 𝕄) (fun P Q => iprop(P ∗ Q)) := ⟨sepC⟩

theorem all4_sep (P Q : Fin 2 → Fin 2 → sProp 𝕄) : all4 (fun h u => iprop(P h u ∗ Q h u)) = iprop(all4 P ∗ all4 Q) := by
  unfold all4; beta_reduce; ac_rfl
theorem all2_sep (P Q : Fin 2 → sProp 𝕄) : all2 (fun h => iprop(P h ∗ Q h)) = iprop(all2 P ∗ all2 Q) := by
  unfold all2; beta_reduce; ac_rfl
theorem all4_mono {P Q : Fin 2 → Fin 2 → sProp 𝕄} (h : ∀ i j, P i j ⊢ Q i j) : all4 P ⊢ all4 Q :=
  BI.sep_mono (h 0 0) (BI.sep_mono (h 0 1) (BI.sep_mono (h 1 0) (h 1 1)))
theorem all2_mono {P Q : Fin 2 → sProp 𝕄} (h : ∀ i, P i ⊢ Q i) : all2 P ⊢ all2 Q := BI.sep_mono (h 0) (h 1)
/-- The two lanes of a half, one of them first. -/
theorem all4_pair (P : Fin 2 → Fin 2 → sProp 𝕄) (b : Fin 2 → Fin 2) : all4 P = all2 fun h => iprop(P h (b h) ∗ P h (1 - b h)) := by
  have e : ∀ (Φ : Fin 2 → sProp 𝕄) (i : Fin 2), iprop(Φ 0 ∗ Φ 1) = iprop(Φ i ∗ Φ (1 - i)) := fun Φ i => by
    match i with
    | 0 => rfl
    | 1 => exact sepC _ _
  show iprop(P 0 0 ∗ P 0 1 ∗ P 1 0 ∗ P 1 1) = iprop((P 0 (b 0) ∗ P 0 (1 - b 0)) ∗ (P 1 (b 1) ∗ P 1 (1 - b 1)))
  rw [← e (P 0) (b 0), ← e (P 1) (b 1), sepA]

/-- Copies by lanes and halves. -/
theorem copies (Φ : Cp → sProp 𝕄) : bigSep Finset.univ Φ
    = iprop(all4 (fun h u => iprop(Φ (cpS h u 0) ∗ Φ (cpS h u 1) ∗ Φ (cpS h u 2)))
        ∗ all2 (fun h => iprop(Φ (h, 6) ∗ Φ (h, 7) ∗ Φ (h, 8)))
        ∗ all4 (fun h u => iprop(Φ (cpG h u 0) ∗ Φ (cpG h u 1) ∗ Φ (cpG h u 2)))) := by
  have h := bigSep_univ_eq_bigSepL [cpS 0 0 0, cpS 0 0 1, cpS 0 0 2, cpS 0 1 0, cpS 0 1 1, cpS 0 1 2, cpS 1 0 0, cpS 1 0 1, cpS 1 0 2,
    cpS 1 1 0, cpS 1 1 1, cpS 1 1 2, (0, 6), (0, 7), (0, 8), (1, 6), (1, 7), (1, 8),
    cpG 0 0 0, cpG 0 0 1, cpG 0 0 2, cpG 0 1 0, cpG 0 1 1, cpG 0 1 2, cpG 1 0 0, cpG 1 0 1, cpG 1 0 2,
    cpG 1 1 0, cpG 1 1 1, cpG 1 1 2] (by decide) (by decide) Φ
  refine h.trans ?_
  unfold all4 all2
  simp only [sepA]
  rfl

/-- Blocks by lanes, each lane's four in an order of its own. -/
theorem blocks (c : Dev nD) (e : Fin 2 → ℕ → Fin 4) (he : ∀ u, [e u 0, e u 1, e u 2, e u 3].Nodup) (Φ : Blk → sProp 𝕄) :
    bigSep Finset.univ Φ = all4 fun h u => iprop(Φ (blkAt h (e u 0) u c) ∗ Φ (blkAt h (e u 1) u c) ∗ Φ (blkAt h (e u 2) u c) ∗ Φ (blkAt h (e u 3) u c)) := by
  have q : ∀ h u : Fin 2, bigSep Finset.univ (fun j : Fin 4 => Φ (h, j, u))
      = iprop(Φ (blkAt h (e u 0) u c) ∗ Φ (blkAt h (e u 1) u c) ∗ Φ (blkAt h (e u 2) u c) ∗ Φ (blkAt h (e u 3) u c)) := fun h u => by
    have hn : ∀ p a b c d : Fin 4, [a, b, c, d].Nodup → [p + a, p + b, p + c, p + d].Nodup := by decide +kernel
    have hu : ∀ p a b c d : Fin 4, [a, b, c, d].Nodup → [p + a, p + b, p + c, p + d].toFinset = Finset.univ := by decide +kernel
    exact bigSep_univ_eq_bigSepL [pos h c + e u 0, pos h c + e u 1, pos h c + e u 2, pos h c + e u 3] (hu _ _ _ _ _ (he u)).symm (hn _ _ _ _ _ (he u)) _
  rw [bigSep_univ_prod, bigSep_fin_two, bigSep_univ_prod, bigSep_univ_prod, bigSep_univ_comm, bigSep_univ_comm (fun j u => Φ (1, j, u)),
    bigSep_fin_two, bigSep_fin_two, q, q, q, q]
  exact sepA _ _ _

theorem jS_all : ∀ u : Fin 2, [jS u 0, jS u 1, jS u 2, jS u 3].Nodup := by decide
theorem gS_all : ∀ u : Fin 2, [gS u 0, gS u 1, gS u 2, gS u 3].Nodup := by decide
theorem jS_three : ∀ u : Fin 2, jS u 3 = 1 := by decide
theorem gS_zero : ∀ u : Fin 2, gS u 0 = 1 := by decide

/-- Slots by lanes. -/
theorem slots (Ψ : Fin 6 → sProp 𝕄) : bigSep Finset.univ Ψ
    = iprop((Ψ (slS 0 0) ∗ Ψ (slS 0 1) ∗ Ψ (slS 0 2)) ∗ (Ψ (slS 1 0) ∗ Ψ (slS 1 1) ∗ Ψ (slS 1 2))) := by
  have h := bigSep_univ_eq_bigSepL [slS 0 0, slS 0 1, slS 0 2, slS 1 0, slS 1 1, slS 1 2] (by decide) (by decide) Ψ
  refine h.trans ?_
  simp only [sepA]
  rfl

/-! ## The buffers on the way in -/

/-- A buffer of any contents. -/
def anyOf {s : Shape} {e : EltTy} (c : Dev nD) (M : Memref sig .tc .vmem s e) : sProp 𝕄 := iprop(∃ X, has (F := F) c M X)

theorem any_c (c : Dev nD) : all2 (fun g => anyOf (F := F) c (cM g)) ⊢ all4 fun h u =>
    iprop(some' (F := F) c (slot h (slS u 0)) ∗ some' c (slot h (slS u 1)) ∗ some' c (slot h (slS u 2))) := by
  have h : ∀ g, anyOf (F := F) c (cM g) ⊢ iprop((some' (F := F) c (slot g (slS 0 0)) ∗ some' c (slot g (slS 0 1)) ∗ some' c (slot g (slS 0 2)))
      ∗ (some' c (slot g (slS 1 0)) ∗ some' c (slot g (slS 1 1)) ∗ some' c (slot g (slS 1 2)))) := fun g => by
    rw [← slots (fun i => some' (F := F) c (slot g i))]; exact split_c c g
  refine (all2_mono h).trans (Entails.of_eq ?_)
  exact sepA _ _ _
theorem c_any [∀ e, Nonempty (Elt F e)] (c : Dev nD) : all4 (fun h u =>
    iprop(some' (F := F) c (slot h (slS u 0)) ∗ some' c (slot h (slS u 1)) ∗ some' c (slot h (slS u 2)))) ⊢ all2 (fun g => anyOf (F := F) c (cM g)) := by
  have h : ∀ g, iprop((some' (F := F) c (slot g (slS 0 0)) ∗ some' c (slot g (slS 0 1)) ∗ some' c (slot g (slS 0 2)))
      ∗ (some' c (slot g (slS 1 0)) ∗ some' c (slot g (slS 1 1)) ∗ some' c (slot g (slS 1 2)))) ⊢ anyOf (F := F) c (cM g) := fun g => by
    rw [← slots (fun i => some' (F := F) c (slot g i))]; exact join_c c g
  refine BIBase.Entails.trans (Entails.of_eq ?_) (all2_mono h)
  exact (sepA _ _ _).symm

/-- The landings of the copies that come to a device, by lanes and halves. -/
theorem landings (c : Dev nD) : (bigSep Finset.univ fun k : Cp => some' (F := F) c (dstM k (src k c)))
    = iprop(all4 (fun h u => iprop(some' (F := F) c (slot h (slS u 0)) ∗ some' c (slot h (slS u 1)) ∗ some' c (slot h (slS u 2))))
        ∗ all2 (fun h => iprop(some' (F := F) c (m1M h) ∗ some' c (m2M h) ∗ some' c (oS (bo h c))))
        ∗ all4 (fun h u => iprop(some' (F := F) c (oS (blkAt h (gS u 1) u c)) ∗ some' c (oS (blkAt h (gS u 2) u c)) ∗ some' c (oS (blkAt h (gS u 3) u c))))) := by
  have h8 : ∀ h, dstM (h, 8) (src (h, 8) c) = oS (bo h c) := fun h => by rw [src_8]; exact congrArg oS (blk_8 h c)
  rw [copies]
  have eS : ∀ h u s, dstM (cpS h u s) (src (cpS h u s) c) = slot h (slS u s) := fun h u s => dstM_S h u s _
  have e6 : ∀ h, dstM (h, 6) (src (h, 6) c) = m1M h := fun h => rfl
  have e7 : ∀ h, dstM (h, 7) (src (h, 7) c) = m2M h := fun h => rfl
  have eG : ∀ h u s, dstM (cpG h u s) (src (cpG h u s) c) = oS (blkAt h (gS u (s.val + 1)) u c) := fun h u s => dstM_G h u s c
  simp only [eS, e6, e7, h8, eG]
  rfl

/-- What a device is given of its buffers before the handshake: the landings, and the block of the result it makes itself. -/
theorem entry (c : Dev nD) : iprop(anyOf (F := F) c oM ∗ all2 (fun g => anyOf c (cM g)) ∗ all2 (fun h => some' (F := F) c (m1M h)) ∗ all2 (fun h => some' (F := F) c (m2M h)))
    ⊢ iprop((bigSep Finset.univ fun k : Cp => some' (F := F) c (dstM k (src k c))) ∗ all2 fun h => some' (F := F) c (oS (bk h c))) := by
  have ho : anyOf (F := F) c oM ⊢ iprop(all2 (fun h => some' (F := F) c (oS (bk h c))) ∗ all2 (fun h => some' (F := F) c (oS (bo h c)))
      ∗ all4 (fun h u => iprop(some' (F := F) c (oS (blkAt h (gS u 1) u c)) ∗ some' c (oS (blkAt h (gS u 2) u c)) ∗ some' c (oS (blkAt h (gS u 3) u c))))) := by
    have h0 : all4 (fun h u => some' (F := F) c (oS (blkAt h (gS u 0) u c)))
        = iprop(all2 (fun h => some' (F := F) c (oS (bk h c))) ∗ all2 (fun h => some' (F := F) c (oS (bo h c)))) := by
      simp only [gS_zero]
      exact (all4_pair _ (fun h => bit h c)).trans (all2_sep _ _)
    have h1 : anyOf (F := F) c oM ⊢ iprop(all4 (fun h u => some' (F := F) c (oS (blkAt h (gS u 0) u c)))
        ∗ all4 (fun h u => iprop(some' (F := F) c (oS (blkAt h (gS u 1) u c)) ∗ some' c (oS (blkAt h (gS u 2) u c)) ∗ some' c (oS (blkAt h (gS u 3) u c))))) :=
      (split_o (F := F) c).trans (Entails.of_eq ((blocks c gS gS_all _).trans (all4_sep _ _)))
    iintro H
    ihave ⟨H0, Hr⟩ := h1 $$ H
    ihave ⟨Hk, Ho⟩ := (Entails.of_eq h0) $$ H0
    isplitl [Hk]; · iexact Hk
    isplitl [Ho] <;> iassumption
  rw [landings]
  iintro ⟨Ho, Hc, Hm1, Hm2⟩
  ihave ⟨Hk, Hbo, Hg⟩ := ho $$ Ho
  ihave Hc := (any_c c) $$ Hc
  isplitr [Hk]
  · isplitl [Hc]; · iexact Hc
    isplitr [Hg]
    · iapply (Entails.of_eq (all2_sep _ _).symm)
      isplitl [Hm1]; · iexact Hm1
      iapply (Entails.of_eq (all2_sep _ _).symm)
      isplitl [Hm2] <;> iassumption
    iexact Hg
  iexact Hk

/-- The partial results' buffer by lanes, in the order of the reduce-scatter. -/
theorem entry_z (c : Dev nD) : anyOf (F := F) c zM ⊢ all4 fun h u => iprop(Zq (F := F) c 0 h u ∗ Zq c 1 h u ∗ Zq c 2 h u ∗ Zq c 3 h u) :=
  (split_z c).trans (Entails.of_eq (blocks c jS jS_all _))

/-- The tokens, the waits and the landings of all copies are their jobs, by lanes and halves. -/
abbrev tri (Φ : Cp → sProp 𝕄) : Fin 2 → Fin 2 → sProp 𝕄 := fun h u => iprop(Φ (cpS h u 0) ∗ Φ (cpS h u 1) ∗ Φ (cpS h u 2))
abbrev trX (Φ : Cp → sProp 𝕄) : Fin 2 → sProp 𝕄 := fun h => iprop(Φ (h, 6) ∗ Φ (h, 7) ∗ Φ (h, 8))
abbrev trG (Φ : Cp → sProp 𝕄) : Fin 2 → Fin 2 → sProp 𝕄 := fun h u => iprop(Φ (cpG h u 0) ∗ Φ (cpG h u 1) ∗ Φ (cpG h u 2))

theorem jobs (c : Dev nD) : iprop((bigSep Finset.univ fun k : Cp => wt (F := F) k c) ∗ (bigSep Finset.univ fun k : Cp => tok (F := F) k c)
      ∗ bigSep Finset.univ fun k : Cp => land (F := F) k c)
    = iprop(all4 (tri fun k => job (F := F) k c) ∗ all2 (trX fun k => job (F := F) k c) ∗ all4 (trG fun k => job (F := F) k c)) := by
  rw [← bigSep_sep', ← bigSep_sep']
  exact copies (fun k => job (F := F) k c)

end Cert.Silu

end
-- ==== Proof.Body.lean ====
/-
The whole walk of a device: its parts put together.
-/
module

public import proofs.«01_k».proof.Proof.Deal

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → Vec F S1024x512 .f32) (B : Dev nD → Vec F S512x1024 .f32)
variable (K : Dev nD × Cl → ℕ)

/-! ## From one part of the walk to the next -/

abbrev J (c : Dev nD) : Cp → sProp 𝕄 := fun k => job (F := F) k c

theorem sepR {P Q Q' : sProp 𝕄} (h : Q ⊢ Q') : iprop(P ∗ Q) ⊢ iprop(P ∗ Q') := by
  iintro ⟨HP, HQ⟩
  isplitl [HP]; · iexact HP
  iapply h
  iexact HQ
theorem has_any {s : Shape} {e : EltTy} (c : Dev nD) (M : Memref sig .tc .vmem s e) (X : s.Idx → Elt F e) : has c M X ⊢ anyOf (F := F) c M := by
  unfold anyOf
  iintro H
  iexists X
  iexact H
theorem holds_some (c : Dev nD) (M : Memref sig .tc .vmem S64x1024 .bf16) (X : vB F) : holds c M X ⊢ some' (F := F) c M := by
  unfold some'
  iintro H
  iexists X
  iexact H

theorem into_S (c : Dev nD) : iprop(all4 (tri (J (F := F) c)) ∗ all4 (fun h u => iprop(Zq (F := F) c 0 h u ∗ Zq c 1 h u ∗ Zq c 2 h u ∗ Zq c 3 h u)))
    ⊢ all4 (preS (F := F) c) := by
  rw [← all4_sep]
  refine all4_mono fun h u => ?_
  unfold preS
  iintro ⟨⟨J0, J1, J2⟩, Z0, Z1, Z2, Z3⟩
  isplitl [Z0]; · iexact Z0
  isplitl [J0]; · iexact J0
  isplitl [Z1]; · iexact Z1
  isplitl [J1]; · iexact J1
  isplitl [Z2]; · iexact Z2
  isplitl [J2] <;> iassumption

/-- The reduce-scatter leaves the used up blocks and slots, and the sums of the device's own chunk. -/
theorem out_S (c : Dev nD) : all4 (postS A B c) ⊢ iprop(all4 (tri fun k => junk (F := F) k c)
    ∗ all2 (fun h => holds c (zS (bk h c)) (ringSum A B h c (bit h c))) ∗ all2 (fun h => holds c (zS (bo h c)) (ringSum A B h c (1 - bit h c)))) := by
  have h1 : all4 (postS A B c) ⊢ all4 (fun h u => iprop((tri fun k => junk (F := F) k c) h u ∗ holds c (zS (blkAt h 1 u c)) (ringSum A B h c u))) :=
    all4_mono fun h u => by
      unfold postS
      iintro ⟨H0, H1, H2, H3⟩
      isplitr [H3]
      · isplitl [H0]; · iexact H0
        isplitl [H1] <;> iassumption
      iexact H3
  refine (h1.trans (Entails.of_eq (all4_sep _ _))).trans (sepR (Entails.of_eq ?_))
  exact (all4_pair _ (fun h => bit h c)).trans (all2_sep _ _)

theorem into_X (c : Dev nD) : iprop(all2 (trX (J (F := F) c)) ∗ all2 (fun h => some' (F := F) c (oS (bk h c)))
      ∗ all2 (fun h => holds c (zS (bk h c)) (ringSum A B h c (bit h c))) ∗ all2 (fun h => holds c (zS (bo h c)) (ringSum A B h c (1 - bit h c))))
    ⊢ all2 (preX A B c) := by
  rw [← all2_sep, ← all2_sep, ← all2_sep]
  refine all2_mono fun h => ?_
  unfold preX
  iintro ⟨⟨J6, J7, J8⟩, Hk, Hb, Ho⟩
  isplitl [Ho]; · iexact Ho
  isplitl [J6]; · iexact J6
  isplitl [Hb]; · iexact Hb
  isplitl [J7]; · iexact J7
  isplitl [Hk] <;> iassumption

/-- What the exchanges leave besides the result's blocks. -/
abbrev restX (c : Dev nD) (h : Fin 2) : sProp 𝕄 :=
  iprop(junk (F := F) (h, 6) c ∗ (gone (h, 7) c ∗ some' c (m2M h)) ∗ some' c (zS (bk h c)) ∗ gone (h, 8) c)

theorem outS_bit (h : Fin 2) (c : Dev nD) : outS A B h c (bit h c) 0 = res A B h c := if_pos rfl
theorem outS_other (h : Fin 2) (c : Dev nD) : outS A B h c (1 - bit h c) 0 = res A B h (near h c) :=
  if_neg (by have : ∀ b : Fin 2, 1 - b ≠ b := by decide
             exact this _)

theorem out_X (c : Dev nD) : all2 (postX A B c) ⊢ iprop(all2 (restX (F := F) c) ∗ all4 (Oq A B c 0)) := by
  have e : all4 (Oq A B c 0) = all2 fun h => iprop(holds c (oS (bk h c)) (res A B h c) ∗ holds c (oS (bo h c)) (res A B h (near h c))) := by
    refine (all4_pair _ (fun h => bit h c)).trans (congrArg all2 (funext fun h => ?_))
    show iprop(holds c (oS (blkAt h (gS _ 0) _ c)) (outS A B h c (bit h c) 0) ∗ holds c (oS (blkAt h (gS _ 0) _ c)) (outS A B h c (1 - bit h c) 0)) = _
    rw [gS_zero, gS_zero, outS_bit, outS_other]
  rw [e, ← all2_sep]
  refine all2_mono fun h => ?_
  unfold postX
  iintro ⟨H6, H7, Hz, H8, Hk, Ho⟩
  isplitr [Hk Ho]
  · isplitl [H6]; · iexact H6
    isplitl [H7]; · iexact H7
    isplitl [Hz]; · iapply (holds_some c _ _); iexact Hz
    iexact H8
  isplitl [Hk] <;> iassumption

theorem into_G (c : Dev nD) : iprop(all4 (trG (J (F := F) c)) ∗ all4 (Oq A B c 0)) ⊢ all4 (preG A B c) := by
  rw [← all4_sep]
  refine all4_mono fun h u => ?_
  unfold preG
  iintro ⟨⟨J0, J1, J2⟩, O0⟩
  isplitl [O0]; · iexact O0
  isplitl [J0]; · iexact J0
  isplitl [J1] <;> iassumption

/-! ## The way out -/

abbrev G (c : Dev nD) : Cp → sProp 𝕄 := fun k => gone (F := F) k c

/-- The all-gather leaves the whole result. -/
theorem out_G [∀ e, Nonempty (Elt F e)] (c : Dev nD) : all4 (postG A B c) ⊢ iprop(all4 (trG (G (F := F) c)) ∗ has c oM (ofBlks (outB A B c))) := by
  have h1 : all4 (postG A B c) ⊢ all4 (fun h u => iprop((trG (G (F := F) c)) h u ∗ (Oq A B c 0 h u ∗ Oq A B c 1 h u ∗ Oq A B c 2 h u ∗ Oq A B c 3 h u))) :=
    all4_mono fun h u => by
      unfold postG
      iintro ⟨⟨G0, H0⟩, ⟨G1, H1⟩, ⟨G2, H2⟩, H3⟩
      isplitl [G0 G1 G2]
      · isplitl [G0]; · iexact G0
        isplitl [G1] <;> iassumption
      isplitl [H0]; · iexact H0
      isplitl [H1]; · iexact H1
      isplitl [H2] <;> iassumption
  refine (h1.trans (Entails.of_eq (all4_sep _ _))).trans (sepR ?_)
  have ev : ∀ (h u : Fin 2) (s : Fin 4), outS A B h c u s = outB A B c (blkAt h (gS u s) u c) := fun h u s => by
    rw [← outJ_S]
    have e : pos h c + gS u s - pos h c = gS u s := (show ∀ p j : Fin 4, p + j - p = j by decide) _ _
    exact (congrArg (fun j => outJ A B h c j u) e).symm
  have eb := blocks c gS gS_all (fun b => holds c (oS b) (outB A B c b))
  have e : all4 (fun h u => iprop(Oq A B c 0 h u ∗ Oq A B c 1 h u ∗ Oq A B c 2 h u ∗ Oq A B c 3 h u))
      = bigSep Finset.univ fun b => holds c (oS b) (outB A B c b) := by
    rw [eb]
    have e0 := fun h u => ev h u 0
    have e1 := fun h u => ev h u 1
    have e2 := fun h u => ev h u 2
    have e3 := fun h u => ev h u 3
    refine congrArg all4 (funext fun h => funext fun u => ?_)
    show iprop(holds c _ (outS A B h c u 0) ∗ holds c _ (outS A B h c u 1) ∗ holds c _ (outS A B h c u 2) ∗ holds c _ (outS A B h c u 3)) = _
    rw [show outS A B h c u 0 = _ from e0 h u, show outS A B h c u 1 = _ from e1 h u, show outS A B h c u 2 = _ from e2 h u, show outS A B h c u 3 = _ from e3 h u]
    rfl
  exact (Entails.of_eq e).trans (join_o c _)

/-- The rest of the buffers and all the semaphores are back. -/
theorem out_rest [∀ e, Nonempty (Elt F e)] (c : Dev nD) :
    iprop(all4 (tri fun k => junk (F := F) k c) ∗ all2 (restX (F := F) c) ∗ all4 (trG (G (F := F) c)))
      ⊢ iprop((bigSep Finset.univ fun k : Cp => gone (F := F) k c) ∗ anyOf (F := F) c zM ∗ all2 (fun g => anyOf c (cM g))
        ∗ all2 (fun h => some' (F := F) c (m1M h)) ∗ all2 (fun h => some' (F := F) c (m2M h))) := by
  have hS : all4 (tri fun k => junk (F := F) k c) ⊢ iprop(all4 (tri (G (F := F) c))
      ∗ all4 (fun h u => iprop(Zq (F := F) c 0 h u ∗ Zq c 1 h u ∗ Zq c 2 h u))
      ∗ all4 (fun h u => iprop(some' (F := F) c (slot h (slS u 0)) ∗ some' c (slot h (slS u 1)) ∗ some' c (slot h (slS u 2))))) := by
    rw [← all4_sep, ← all4_sep]
    refine all4_mono fun h u => ?_
    have ej : ∀ s : Fin 3, junk (F := F) (cpS h u s) c = iprop(gone (cpS h u s) c ∗ Zq c s h u ∗ some' c (slot h (slS u s))) := fun s => by
      unfold junk
      rw [srcM_S, dstM_S]
    show iprop(junk _ c ∗ junk _ c ∗ junk _ c) ⊢ _
    rw [ej, ej, ej]
    iintro ⟨⟨G0, Z0, C0⟩, ⟨G1, Z1, C1⟩, ⟨G2, Z2, C2⟩⟩
    isplitl [G0 G1 G2]
    · isplitl [G0]; · iexact G0
      isplitl [G1]; · iexact G1
      iexact G2
    isplitl [Z0 Z1 Z2]
    · isplitl [Z0]; · iexact Z0
      isplitl [Z1]; · iexact Z1
      iexact Z2
    isplitl [C0]; · iexact C0
    isplitl [C1]; · iexact C1
    iexact C2
  have hX : all2 (restX (F := F) c) ⊢ iprop(all2 (trX (G (F := F) c)) ∗ all2 (fun h => some' (F := F) c (m1M h)) ∗ all2 (fun h => some' (F := F) c (m2M h))
      ∗ all4 (Zq (F := F) c 3)) := by
    have e : all4 (Zq (F := F) c 3) = all2 fun h => iprop(some' (F := F) c (zS (bk h c)) ∗ some' (F := F) c (zS (bo h c))) := by
      refine (all4_pair _ (fun h => bit h c)).trans (congrArg all2 (funext fun h => ?_))
      show iprop(some' c (zS (blkAt h (jS _ 3) _ c)) ∗ some' c (zS (blkAt h (jS _ 3) _ c))) = _
      rw [jS_three, jS_three]
    rw [e, ← all2_sep, ← all2_sep, ← all2_sep]
    refine all2_mono fun h => ?_
    have ej : junk (F := F) (h, 6) c = iprop(gone (h, 6) c ∗ some' c (zS (bo h c)) ∗ some' c (m1M h)) := rfl
    show iprop(junk (F := F) (h, 6) c ∗ (gone (h, 7) c ∗ some' c (m2M h)) ∗ some' c (zS (bk h c)) ∗ gone (h, 8) c) ⊢ _
    rw [ej]
    iintro ⟨⟨G6, Zo, M1⟩, ⟨G7, M2⟩, Zk, G8⟩
    isplitl [G6 G7 G8]
    · isplitl [G6]; · iexact G6
      isplitl [G7]; · iexact G7
      iexact G8
    isplitl [M1]; · iexact M1
    isplitl [M2]; · iexact M2
    isplitl [Zk] <;> iassumption
  have hz : iprop(all4 (fun h u => iprop(Zq (F := F) c 0 h u ∗ Zq c 1 h u ∗ Zq c 2 h u)) ∗ all4 (Zq (F := F) c 3)) ⊢ anyOf (F := F) c zM := by
    rw [← all4_sep]
    refine BIBase.Entails.trans (Entails.of_eq ?_) (join_z c)
    rw [blocks c jS jS_all]
    exact congrArg all4 (funext fun h => funext fun u => (sepA _ _ _).trans (congrArg (fun P => iprop(Zq (F := F) c 0 h u ∗ P)) (sepA _ _ _)))
  rw [copies (fun k => gone (F := F) k c)]
  iintro ⟨HS, HX, HG⟩
  ihave ⟨GS, ZS, CS⟩ := hS $$ HS
  ihave ⟨GX, M1, M2, ZX⟩ := hX $$ HX
  isplitl [GS GX HG]
  · isplitl [GS]; · iexact GS
    isplitl [GX] <;> iassumption
  isplitl [ZS ZX]
  · iapply hz
    isplitl [ZS] <;> iassumption
  isplitl [CS]
  · iapply (c_any c); iexact CS
  isplitl [M1] <;> iassumption

/-! ## The whole walk -/

/-- What a device starts with: the handshake's cells, the waits and the tokens of its copies, its operands, and its buffers. -/
def startOf (c : Dev nD) : sProp 𝕄 :=
  iprop((recs A B K ∗ ∃ W, owes (c : Thread nD τ) (owed₀ c) W) ∗ (bigSep Finset.univ fun s : Fin 5 => dutyTok ER (barC (peer s c)) 0 (opp s))
    ∗ (atPos ER (barC c) 0 ∅ 0 ∗ cred (tallyAt (barC c) () 5))
    ∗ ((bigSep Finset.univ fun k : Cp => wt (F := F) k c) ∗ bigSep Finset.univ fun k : Cp => tok (F := F) k c)
    ∗ (has c aM (A c) ∗ has c bM (B c))
    ∗ (anyOf (F := F) c oM ∗ all2 (fun g => anyOf c (cM g)) ∗ all2 (fun h => some' (F := F) c (m1M h)) ∗ all2 (fun h => some' (F := F) c (m2M h)))
    ∗ anyOf (F := F) c wM ∗ anyOf (F := F) c zM)
/-- And what it ends with: every semaphore at zero, nothing owed, the operands unchanged and the result. -/
def stopOf (c : Dev nD) : sProp 𝕄 :=
  iprop((∃ W, owes (c : Thread nD τ) 0 W) ∗ semVal (barC c) 0 ∗ (bigSep Finset.univ fun k : Cp => gone (F := F) k c)
    ∗ (has c aM (A c) ∗ has c bM (B c)) ∗ has c oM (ofBlks (outB A B c))
    ∗ (all2 (fun g => anyOf (F := F) c (cM g)) ∗ all2 (fun h => some' (F := F) c (m1M h)) ∗ all2 (fun h => some' (F := F) c (m2M h)))
    ∗ anyOf (F := F) c wM ∗ anyOf (F := F) c zM)

/-- Before the cast, before the exchanges and before the all-gather. -/
def atCast (c : Dev nD) : sProp 𝕄 :=
  iprop(at' A B K 0 c ∗ semVal (barC c) 0 ∗ has c aM (A c) ∗ all4 (preS (F := F) c) ∗ all2 (trX (J (F := F) c))
    ∗ all4 (trG (J (F := F) c)) ∗ all2 (fun h => some' (F := F) c (oS (bk h c))))
def atX (c : Dev nD) : sProp 𝕄 :=
  iprop((SS A B K c 12 ∗ all2 (preX A B c)) ∗ semVal (barC c) 0 ∗ has c bM (B c) ∗ all4 (trG (J (F := F) c)) ∗ all4 (tri fun k => junk (F := F) k c))
def atG (c : Dev nD) : sProp 𝕄 :=
  iprop((SS A B K c 18 ∗ all4 (preG A B c)) ∗ semVal (barC c) 0 ∗ has c bM (B c) ∗ all2 (restX (F := F) c) ∗ all4 (tri fun k => junk (F := F) k c))

theorem part_hand (c : Dev nD) : Step c (startOf A B K c) (handshake c) iprop((has c bM (B c) ∗ ∃ W, has c wM W) ∗ atCast A B K c) := by
  refine ((step_hand A B K c).frame iprop(((bigSep Finset.univ fun k : Cp => wt (F := F) k c) ∗ bigSep Finset.univ fun k : Cp => tok (F := F) k c)
      ∗ (has c aM (A c) ∗ has c bM (B c)) ∗ all2 (fun h => some' (F := F) c (oS (bk h c))) ∗ anyOf (F := F) c wM ∗ anyOf (F := F) c zM)).conseq ?_ ?_
  · unfold startOf handPre
    iintro ⟨HO, Hts, ⟨Hat, Hcr⟩, Hwt, Hab, Hbuf, Hw, Hz⟩
    ihave ⟨Hl, Hk⟩ := (entry c) $$ Hbuf
    isplitl [HO Hts Hat Hcr Hl]
    · isplitl [HO]; · iexact HO
      isplitl [Hts]; · iexact Hts
      isplitl [Hl]; · iexact Hl
      isplitl [Hat] <;> iassumption
    isplitl [Hwt]; · iexact Hwt
    isplitl [Hab]; · iexact Hab
    isplitl [Hk]; · iexact Hk
    isplitl [Hw] <;> iassumption
  · unfold atCast
    iintro ⟨⟨HA, Hb0, Hl⟩, ⟨Hwt, Htk⟩, ⟨Ha, Hb⟩, Hk, Hw, Hz⟩
    ihave ⟨JS, JX, JG⟩ := (Entails.of_eq (jobs (F := F) c)) $$ [Hwt Htk Hl]
    · isplitl [Hwt]; · iexact Hwt
      isplitl [Htk] <;> iassumption
    ihave Hz := (entry_z c) $$ Hz
    ihave HS := (into_S c) $$ [JS Hz]
    · isplitl [JS] <;> iassumption
    isplitl [Hb Hw]
    · isplitl [Hb]; · iexact Hb
      unfold anyOf; iexact Hw
    isplitl [HA]; · iexact HA
    isplitl [Hb0]; · iexact Hb0
    isplitl [Ha]; · iexact Ha
    isplitl [HS]; · iexact HS
    isplitl [JX]; · iexact JX
    isplitl [JG] <;> iassumption
theorem part_S (c : Dev nD) : Step c iprop((has c bM (B c) ∗ has c wM (k0_pay1 (B c))) ∗ atCast A B K c) (progS c) (atX A B K c) := by
  refine ((walkS A B K c).frame iprop(semVal (barC c) 0 ∗ has c bM (B c) ∗ all2 (trX (J (F := F) c))
      ∗ all4 (trG (J (F := F) c)) ∗ all2 (fun h => some' (F := F) c (oS (bk h c))))).conseq ?_ ?_
  · unfold atCast
    iintro ⟨⟨Hb, Hw⟩, HA, Hb0, Ha, HS, JX, JG, Hk⟩
    isplitl [HA Ha Hw HS]
    · isplitr [HS]
      · unfold SS ins
        isplitl [Ha Hw]
        · isplitl [Ha] <;> iassumption
        iexact HA
      iexact HS
    isplitl [Hb0]; · iexact Hb0
    isplitl [Hb]; · iexact Hb
    isplitl [JX]; · iexact JX
    isplitl [JG] <;> iassumption
  · unfold atX
    iintro ⟨⟨HA, HS⟩, Hb0, Hb, JX, JG, Hk⟩
    ihave ⟨Hj, Hbk, Hbo⟩ := (out_S A B c) $$ HS
    ihave HX := (into_X A B c) $$ [JX Hk Hbk Hbo]
    · isplitl [JX]; · iexact JX
      isplitl [Hk]; · iexact Hk
      isplitl [Hbk] <;> iassumption
    isplitl [HA HX]
    · isplitl [HA] <;> iassumption
    isplitl [Hb0]; · iexact Hb0
    isplitl [Hb]; · iexact Hb
    isplitl [JG] <;> iassumption
theorem part_X (c : Dev nD) : Step c (atX A B K c) (progX c) (atG A B K c) := by
  refine ((walkX A B K c).frame iprop(semVal (barC c) 0 ∗ has c bM (B c) ∗ all4 (trG (J (F := F) c)) ∗ all4 (tri fun k => junk (F := F) k c))).conseq ?_ ?_
  · unfold atX
    iintro H; iexact H
  · unfold atG
    iintro ⟨⟨HA, HX⟩, Hb0, Hb, JG, Hj⟩
    ihave ⟨HX, HO⟩ := (out_X A B c) $$ HX
    ihave HG := (into_G A B c) $$ [JG HO]
    · isplitl [JG] <;> iassumption
    isplitl [HA HG]
    · isplitl [HA] <;> iassumption
    isplitl [Hb0]; · iexact Hb0
    isplitl [Hb]; · iexact Hb
    isplitl [HX] <;> iassumption
theorem part_G [∀ e, Nonempty (Elt F e)] (c : Dev nD) : Step c (atG A B K c) (progG c) (stopOf A B c) := by
  refine ((walkG A B K c).frame iprop(semVal (barC c) 0 ∗ has c bM (B c) ∗ all2 (restX (F := F) c) ∗ all4 (tri fun k => junk (F := F) k c))).conseq ?_ ?_
  · unfold atG
    iintro H; iexact H
  · unfold SS ins at' stopOf
    rw [owed_end]
    iintro ⟨⟨⟨⟨Ha, Hw⟩, ⟨-, HW⟩⟩, HG⟩, Hb0, Hb, HX, Hj⟩
    ihave ⟨HG, Ho⟩ := (out_G A B c) $$ HG
    ihave ⟨Hg, Hz, Hc, Hm1, Hm2⟩ := (out_rest c) $$ [HG HX Hj]
    · isplitl [Hj]; · iexact Hj
      isplitl [HX] <;> iassumption
    isplitl [HW]; · iexact HW
    isplitl [Hb0]; · iexact Hb0
    isplitl [Hg]; · iexact Hg
    isplitl [Ha Hb]
    · isplitl [Ha] <;> iassumption
    isplitl [Ho]; · iexact Ho
    isplitl [Hc Hm1 Hm2]
    · isplitl [Hc]; · iexact Hc
      isplitl [Hm1] <;> iassumption
    isplitl [Hw]
    · iapply (has_any c _ _); iexact Hw
    iexact Hz

theorem walk [∀ e, Nonempty (Elt F e)] (c : Dev nD) : Step c (startOf A B K c) (clean c) (stopOf A B c) := by
  rw [clean_parts]
  exact (part_hand A B K c).append (((step_cast B c).frame (atCast A B K c)).append
    (((part_S A B K c).append (part_X A B K c)).append (part_G A B K c)))

end

end Cert.Silu

end
-- ==== Proof.Fund.lean ====
/-
The launch's share: the cells and tokens it makes, who gets which token, and the credit every device starts with.
-/
module

public import proofs.«01_k».proof.Proof.Body

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → Vec F S1024x512 .f32) (B : Dev nD → Vec F S512x1024 .f32)

abbrev osem : Cp ⊕ Cp → SemLoc sig := fun x => csem (some x)

/-! ## Sums over the cells of a device -/

/-- All cells of a device are its barrier and the cells of its copies. -/
theorem bigSep_cl (Φ : Cl → sProp 𝕄) :
    bigSep Finset.univ Φ = iprop(Φ none ∗ bigSep Finset.univ fun x : Cp ⊕ Cp => Φ (some x)) := by
  rw [bigSep_univ_equiv (Equiv.optionEquivSumPUnit.{0, 0} (Cp ⊕ Cp)).symm Φ, bigSep_univ_sum, bigSep_univ_of_subsingleton PUnit.unit]
  exact sepC _ _
theorem bigSep_cps {M : Type} [URA M] (Φ : Cp ⊕ Cp → sProp M) :
    bigSep Finset.univ Φ = iprop((bigSep Finset.univ fun k : Cp => Φ (.inl k)) ∗ bigSep Finset.univ fun k : Cp => Φ (.inr k)) :=
  bigSep_univ_sum Φ

/-! ## What the launch deals -/

def kcell (p : Dev nD × Cl) : GSem nD τ sig := cell p.1 p.2
theorem kcell_inj : Function.Injective kcell := fun p q h => Prod.ext (cell_inj h).1 (cell_inj h).2
def siluCells : Finset (GSem nD τ sig) := Finset.univ.map ⟨kcell, kcell_inj⟩

/-- The tokens of a device's cells: five of its barrier, one of every send and every receive. -/
def tokOf (p : Dev nD × (Fin 5 ⊕ (Cp ⊕ Cp))) : GSem nD τ sig × ℕ × Fin 5 :=
  match p.2 with | .inl s => (barC p.1, 0, s) | .inr x => (cell p.1 (some x), 0, 0)
theorem tokOf_inj : Function.Injective tokOf := by
  rintro ⟨c, x⟩ ⟨c', x'⟩ h
  have h1 := congrArg Prod.fst h
  have h2 := congrArg (fun t => t.2.2) h
  match x, x', h1, h2 with
  | .inl s, .inl s', h1, h2 => exact Prod.ext (cell_inj h1).1 (congrArg Sum.inl h2)
  | .inr x, .inr x', h1, h2 => exact Prod.ext (cell_inj h1).1 (congrArg Sum.inr (Option.some.inj (cell_inj h1).2))
  | .inl s, .inr x, h1, h2 => exact absurd (cell_inj h1).2 (fun h => by cases h)
  | .inr x, .inl s, h1, h2 => exact absurd (cell_inj h1).2 (fun h => by cases h)
def siluToks : Finset (GSem nD τ sig × ℕ × Fin 5) := Finset.univ.map ⟨tokOf, tokOf_inj⟩

def u₀ : UU := (initOf (Pipeline.cells cfgs cellOf_inj) (Pipeline.launchToks cfgs cellOf_inj), initOf siluCells siluToks)

def toks (c : Dev nD) : sProp 𝕄 :=
  iprop((bigSep Finset.univ fun s : Fin 5 => dutyTok ER (barC c) 0 s)
    ∗ (bigSep Finset.univ fun k : Cp => dutyTok ER (sndC c k) 0 0) ∗ bigSep Finset.univ fun k : Cp => dutyTok ER (rcvC c k) 0 0)

/-- What a device gets of the launch's own element. -/
def gDeal (c : Dev nD) : sProp 𝕄 :=
  iprop((bigSep Finset.univ fun x : Cl => roundState ER (Rd A B) (cell c x) 0)
    ∗ ((bigSep Finset.univ fun x : Cl => atPos ER (cell c x) 0 ∅ 0) ∗ bigSep Finset.univ fun x : Cl => reached ER (cell c x) 0) ∗ toks c)

theorem sum_cells (Φ : GSem nD τ sig → sProp 𝕄) :
    bigSep siluCells Φ = bigSep Finset.univ fun c : Dev nD => bigSep Finset.univ fun x : Cl => Φ (cell c x) := by
  unfold siluCells; rw [bigSep_map, bigSep_univ_prod]; rfl
theorem sum_toks : bigSep siluToks (fun x => (dutyTok ER x.1 x.2.1 x.2.2 : sProp 𝕄)) = bigSep Finset.univ fun c : Dev nD => toks c := by
  unfold siluToks; rw [bigSep_map, bigSep_univ_prod]
  exact bigSep_congr fun c _ => by rw [bigSep_univ_sum, bigSep_cps]; rfl

/-- The launch's own element, dealt to the devices. -/
theorem fund_silu : BI.own (ER (initOf siluCells siluToks)) ⊢ (|==> bigSep Finset.univ (gDeal A B) : sProp 𝕄) := by
  iintro HX
  imod (Rounds.fund ER (Rd A B) siluCells siluToks) $$ HX with ⟨Hst, Hr, Hat, Htok⟩
  imodintro
  ihave Hst := (Entails.of_eq (sum_cells fun g => roundState ER (Rd A B) g 0)) $$ Hst
  ihave Hat := (Entails.of_eq (sum_cells fun g => atPos ER g 0 ∅ 0)) $$ Hat
  ihave Hr := (Entails.of_eq (sum_cells fun g => reached ER g 0)) $$ Hr
  ihave Htok := (Entails.of_eq sum_toks) $$ Htok
  unfold gDeal; simp only [bigSep_sep']
  isplitl [Hst]; · iexact Hst
  isplitl [Hat Hr]
  · isplitl [Hat] <;> iassumption
  iexact Htok

/-! ## The semaphores become the cells -/

theorem unscoped_eq (c : Dev nD) : (unscopedSems0 c : sProp 𝕄) = semVal (barC c) 0 := by
  unfold unscopedSems0; rw [bigSep_eq_bigSepL_of_eq [SemLoc.reg barS] (by decide) (by decide)]; rfl
theorem own_eq (c : Dev nD) : (Pipeline.ownSems0 osem c : sProp 𝕄) = bigSep Finset.univ fun k : Cp => gone (F := F) k c := by
  unfold Pipeline.ownSems0 gone
  rw [bigSep_cps, bigSep_sep']

theorem sems_eq (c : Dev nD) :
    (bigSep Finset.univ fun x : Cl => semVal (cell c x) 0 : sProp 𝕄) = iprop(unscopedSems0 c ∗ Pipeline.ownSems0 osem c) := by
  rw [bigSep_cl, unscoped_eq]; rfl

theorem core_alloc (c : Dev nD) :
    iprop(Pipeline.ownSems0 osem c ∗ unscopedSems0 c ∗ gDeal A B c)
      ⊢ (|={Set.univ}=> iprop((bigSep Finset.univ fun x : Cl => iprop(∃ κ : ℕ, cellInv ER (Rd A B) κ (cell c x)))
          ∗ ((bigSep Finset.univ fun x : Cl => atPos ER (cell c x) 0 ∅ 0) ∗ bigSep Finset.univ fun x : Cl => reached ER (cell c x) 0) ∗ toks c) : sProp 𝕄) := by
  have hinv : iprop((bigSep Finset.univ fun x : Cl => semVal (cell c x) 0) ∗ bigSep Finset.univ fun x : Cl => roundState ER (Rd A B) (cell c x) 0)
      ⊢ (|={Set.univ}=> bigSep Finset.univ fun x : Cl => iprop(∃ κ : ℕ, cellInv ER (Rd A B) κ (cell c x)) : sProp 𝕄) := by
    rw [← bigSep_sep']
    exact (bigSep_mono fun x _ => (Rounds.body_intro ER (Rd A B) (cell c x)).trans inv_alloc).trans (bigSep_fupd _ _)
  have hsem : iprop(unscopedSems0 c ∗ Pipeline.ownSems0 osem c) ⊢ (bigSep Finset.univ fun x : Cl => semVal (cell c x) 0 : sProp 𝕄) :=
    Entails.of_eq (sems_eq c).symm
  unfold gDeal
  iintro ⟨Hos, Hus, Hst, Hat, Htok⟩
  ihave Hv := hsem $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-! ## The tokens go to the devices that pay with them -/

/-- The tokens a device pays with. -/
def payToks (c : Dev nD) : sProp 𝕄 :=
  iprop((bigSep Finset.univ fun s : Fin 5 => dutyTok ER (barC (peer s c)) 0 (opp s)) ∗ bigSep Finset.univ fun k : Cp => tok (F := F) k c)

/-- A device and a way to a peer: the peer and the way back. -/
def peers : Dev nD × Fin 5 ≃ Dev nD × Fin 5 where
  toFun p := (peer p.2 p.1, opp p.2)
  invFun p := (peer p.2 p.1, opp p.2)
  left_inv p := Prod.ext (peer_opp p.2 p.1) (opp_opp p.2)
  right_inv p := Prod.ext (peer_opp p.2 p.1) (opp_opp p.2)
/-- A device and a copy: the copy's target and the copy. -/
def targets : Dev nD × Cp ≃ Dev nD × Cp where
  toFun p := (tgt p.2 p.1, p.2)
  invFun p := (src p.2 p.1, p.2)
  left_inv p := Prod.ext (src_tgt p.2 p.1) rfl
  right_inv p := Prod.ext (tgt_src p.2 p.1) rfl

theorem bar_deal : (bigSep Finset.univ fun c : Dev nD => bigSep Finset.univ fun s : Fin 5 => (dutyTok ER (barC c) 0 s : sProp 𝕄))
    = bigSep Finset.univ fun c : Dev nD => bigSep Finset.univ fun s : Fin 5 => dutyTok ER (barC (peer s c)) 0 (opp s) := by
  rw [← bigSep_univ_prod (fun p : Dev nD × Fin 5 => (dutyTok ER (barC p.1) 0 p.2 : sProp 𝕄)),
    ← bigSep_univ_prod (fun p : Dev nD × Fin 5 => (dutyTok ER (barC (peer p.2 p.1)) 0 (opp p.2) : sProp 𝕄)), bigSep_univ_equiv peers]
  rfl
theorem rcv_deal : (bigSep Finset.univ fun c : Dev nD => bigSep Finset.univ fun k : Cp => (dutyTok ER (rcvC c k) 0 0 : sProp 𝕄))
    = bigSep Finset.univ fun c : Dev nD => bigSep Finset.univ fun k : Cp => dutyTok ER (rcvC (tgt k c) k) 0 0 := by
  rw [← bigSep_univ_prod (fun p : Dev nD × Cp => (dutyTok ER (rcvC p.1 p.2) 0 0 : sProp 𝕄)),
    ← bigSep_univ_prod (fun p : Dev nD × Cp => (dutyTok ER (rcvC (tgt p.2 p.1) p.2) 0 0 : sProp 𝕄)), bigSep_univ_equiv targets]
  rfl
theorem toks_deal : (bigSep Finset.univ fun c : Dev nD => (toks c : sProp 𝕄)) = bigSep Finset.univ fun c : Dev nD => payToks c := by
  unfold toks payToks tok
  simp only [bigSep_sep']
  rw [bar_deal, rcv_deal]

/-! ## What a device starts with -/

/-- The records without the levels. -/
def recs' (K : Dev nD × Cl → ℕ) : sProp 𝕄 :=
  iprop((bigSep Finset.univ fun p : Dev nD × Cl => cellInv ER (Rd A B) (K p) (cell p.1 p.2))
    ∗ bigSep Finset.univ fun p : Dev nD × Cl => reached ER (cell p.1 p.2) 0)
instance recs'_persistent (K : Dev nD × Cl → ℕ) : BI.Persistent (recs' A B K) := by unfold recs'; infer_instance

/-- The positions of a device and the tokens it pays with. -/
def linear (c : Dev nD) : sProp 𝕄 := iprop((bigSep Finset.univ fun x : Cl => atPos ER (cell c x) 0 ∅ 0) ∗ payToks c)
def gDone (c : Dev nD) : sProp 𝕄 := iprop(∃ K, recs' A B K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : R ⊢ bigSep S fun _ => R := BI.bigSep_of_persistent S R
  have h2 : iprop((bigSep S fun _ => R) ∗ bigSep S Φ) ⊢ bigSep S Ψ := by
    rw [← bigSep_sep']; exact bigSep_mono h
  iintro ⟨HR, HS⟩
  iapply h2
  isplitl [HR]
  · iapply h1; iexact HR
  iexact HS

theorem regroup :
    (bigSep Finset.univ fun c : Dev nD => iprop((bigSep Finset.univ fun x : Cl => iprop(∃ κ : ℕ, cellInv ER (Rd A B) κ (cell c x)))
          ∗ ((bigSep Finset.univ fun x : Cl => atPos ER (cell c x) 0 ∅ 0) ∗ bigSep Finset.univ fun x : Cl => reached ER (cell c x) 0) ∗ toks c) : sProp 𝕄)
      ⊢ bigSep Finset.univ (gDone A B) := by
  have hl : iprop((bigSep Finset.univ fun c : Dev nD => bigSep Finset.univ fun x : Cl => (atPos ER (cell c x) 0 ∅ 0 : sProp 𝕄))
      ∗ bigSep Finset.univ fun c : Dev nD => payToks (F := F) c) ⊢ bigSep Finset.univ fun c : Dev nD => linear (F := F) c := by
    unfold linear; rw [← bigSep_sep']
  rw [bigSep_sep', bigSep_sep', bigSep_sep', toks_deal,
    ← bigSep_univ_prod (fun p : Dev nD × Cl => iprop(∃ κ : ℕ, cellInv ER (Rd A B) κ (cell p.1 p.2))),
    ← bigSep_univ_prod (fun p : Dev nD × Cl => (reached ER (cell p.1 p.2) 0 : sProp 𝕄))]
  iintro ⟨HI, ⟨Hat, #HR⟩, Htok⟩
  ihave HK := (BI.bigSep_exists_pi Finset.univ (fun (p : Dev nD × Cl) (κ : ℕ) => (cellInv ER (Rd A B) κ (cell p.1 p.2) : sProp 𝕄))) $$ HI
  icases HK with ⟨%K, #HI⟩
  have hi : ∀ c ∈ (Finset.univ : Finset (Dev nD)), iprop(recs' A B K ∗ linear (F := F) c) ⊢ gDone A B c := fun c _ => by
    unfold gDone
    iintro H
    iexists K
    iexact H
  iapply (with_persistent (R := recs' A B K) hi)
  isplitr
  · unfold recs'; isplitl; · iexact HI
    iexact HR
  · iapply hl
    isplitl [Hat]; · iexact Hat
    iexact Htok

/-- All devices' semaphores at once become cells, and the tokens go round. -/
theorem glob : (bigSep Finset.univ fun c => iprop(Pipeline.ownSems0 osem c ∗ unscopedSems0 c ∗ gDeal A B c) : sProp 𝕄)
    ⊢ |={Set.univ}=> bigSep Finset.univ (gDone A B) :=
  ((bigSep_mono fun c _ => core_alloc A B c).trans (bigSep_fupd _ _)).trans (BI.fupd_mono (regroup A B))

/-! ## The credit -/

theorem owedB_apply (c : Dev nD) (l : List (Fin 5)) (g : GSem nD τ sig) :
    owedB c l g () = owed 0 c g () + (l.map fun s => tallyAt (barC (peer s c)) () 1 g ()).sum := by
  induction l with
  | nil => rw [List.map_nil, List.sum_nil, Nat.add_zero, owedB]
  | cons s l ih => unfold owedB; rw [Pi.add_apply, Finsupp.add_apply, ih, List.map_cons, List.sum_cons, Nat.add_assoc, Nat.add_comm (List.sum _)]
theorem owed_apply (c : Dev nD) (g : GSem nD τ sig) : owed 0 c g () = ∑ k : Cp, tallyAt (rcvC (tgt k c) k) () N g () := by
  unfold owed
  rw [Finset.filter_true_of_mem (fun k _ => Nat.zero_le _), Finset.sum_apply, Finsupp.finset_sum_apply]
theorem owed₀_apply (c : Dev nD) (g : GSem nD τ sig) :
    owed₀ c g () = (∑ k : Cp, tallyAt (rcvC (tgt k c) k) () N g ()) + ∑ s : Fin 5, tallyAt (barC (peer s c)) () 1 g () := by
  unfold owed₀
  rw [owedB_apply, owed_apply, Fin.sum_univ_five]
  simp only [List.map_cons, List.map_nil, List.sum_cons, List.sum_nil, Nat.add_zero, Nat.add_assoc]

theorem tally_bar (s : Fin 5) (d c : Dev nD) :
    tallyAt (barC (peer s d)) () 1 (barC c) () = if d = peer (opp s) c then 1 else 0 := by
  rw [tallyAt_apply]
  by_cases h : d = peer (opp s) c
  · rw [if_pos h, if_pos ⟨by rw [h, peer_opp'], rfl⟩]
  · rw [if_neg h, if_neg fun h' => h (by rw [(cell_inj h'.1).1, peer_opp])]
theorem tally_rcv (k k' : Cp) (d c : Dev nD) :
    tallyAt (rcvC (tgt k' d) k') () N (rcvC c k) () = if k' = k ∧ d = src k c then N else 0 := by
  rw [tallyAt_apply]
  by_cases h : k' = k ∧ d = src k c
  · rw [if_pos h, if_pos ⟨by rw [h.1, h.2, tgt_src], rfl⟩]
  · rw [if_neg h, if_neg fun h' => h (by
      obtain ⟨h1, h2⟩ := cell_inj h'.1
      have h3 : k = k' := Sum.inr.inj (Option.some.inj h2)
      exact ⟨h3.symm, by rw [h1, h3, src_tgt]⟩)]
theorem tally_bar_rcv (s : Fin 5) (d c : Dev nD) (k : Cp) : tallyAt (barC (peer s d)) () 1 (rcvC c k) () = 0 := by
  rw [tallyAt_apply, if_neg fun h => by have := (cell_inj h.1).2; cases this]
theorem tally_rcv_bar (d c : Dev nD) (k : Cp) : tallyAt (rcvC (tgt k d) k) () N (barC c) () = 0 := by
  rw [tallyAt_apply, if_neg fun h => by have := (cell_inj h.1).2; cases this]

theorem sum_bar (c : Dev nD) : ∑ d : Dev nD, owed₀ d (barC c) () = 5 := by
  have h : ∀ d : Dev nD, owed₀ d (barC c) () = ∑ s : Fin 5, if d = peer (opp s) c then 1 else 0 := fun d => by
    rw [owed₀_apply, Finset.sum_eq_zero (fun k _ => tally_rcv_bar d c k), Nat.zero_add]
    exact Finset.sum_congr rfl fun s _ => tally_bar s d c
  rw [Finset.sum_congr rfl fun d _ => h d, Finset.sum_comm,
    Finset.sum_congr rfl fun s _ => (Finset.sum_ite_eq' Finset.univ (peer (opp s) c) fun _ => 1).trans (if_pos (Finset.mem_univ _))]
  rfl
theorem sum_rcv (c : Dev nD) (k : Cp) : ∑ d : Dev nD, owed₀ d (rcvC c k) () = N := by
  have h : ∀ d : Dev nD, owed₀ d (rcvC c k) () = if d = src k c then N else 0 := fun d => by
    rw [owed₀_apply, Finset.sum_eq_zero (fun s _ => tally_bar_rcv s d c k), Nat.add_zero,
      Finset.sum_eq_single k (fun k' _ hk => by rw [tally_rcv, if_neg fun h => hk h.1]) (fun h => absurd (Finset.mem_univ _) h), tally_rcv]
    by_cases hd : d = src k c
    · rw [if_pos ⟨rfl, hd⟩, if_pos hd]
    · rw [if_neg fun h => hd h.2, if_neg hd]
  rw [Finset.sum_congr rfl fun d _ => h d, Finset.sum_ite_eq' Finset.univ (src k c) fun _ => N, if_pos (Finset.mem_univ _)]

/-- The credit of a device at a cell, from what all devices owe there. -/
theorem launch_at (g : GSem nD τ sig) (n : ℕ) (h : ∑ d : Dev nD, owed₀ d g () = n) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) :
    (Pipeline.launchCred owed₀ c : sProp 𝕄) ⊢ iprop(cred (tallyAt (barC c) () 5) ∗ bigSep Finset.univ fun k : Cp => cred (tallyAt (rcvC c k) () N)) := by
  unfold Pipeline.launchCred
  have h1 : bigSep Finset.univ (fun sm : SemLoc sig => (cred (tallyOn ((c : Thread nD τ), sm) (launchCredit (Pipeline.owing owed₀) 0 ((c : Thread nD τ), sm))) : sProp 𝕄))
      ⊢ bigSep (Finset.univ.map ⟨csem, csem_inj⟩) (fun sm : SemLoc sig => cred (tallyOn ((c : Thread nD τ), sm) (launchCredit (Pipeline.owing owed₀) 0 ((c : Thread nD τ), sm)))) :=
    bigSep_subset (Finset.subset_univ _)
  refine h1.trans ?_
  rw [bigSep_map, bigSep_cl, bigSep_cps]
  have hb : (cred (tallyOn (barC c) (launchCredit (Pipeline.owing owed₀) 0 (barC c))) : sProp 𝕄) ⊢ cred (tallyAt (barC c) () 5) := by
    rw [launch_at _ _ (sum_bar c)]
  have hr : (bigSep Finset.univ fun k : Cp => (cred (tallyOn (rcvC c k) (launchCredit (Pipeline.owing owed₀) 0 (rcvC c k))) : sProp 𝕄))
      ⊢ bigSep Finset.univ fun k : Cp => cred (tallyAt (rcvC c k) () N) :=
    Entails.of_eq (bigSep_congr fun k _ => congrArg cred (launch_at _ _ (sum_rcv c k)))
  iintro ⟨H1, -, H2⟩
  isplitl [H1]
  · iapply hb; iexact H1
  iapply hr; iexact H2

/-! ## The waits of the staging -/

theorem stage_ne (q : DmaSem sig) (h : q.val < 3) (x : Cl) : csem x ≠ .dma q := by
  intro hx
  match x, hx with
  | some (.inl k), hx =>
    have h1 : sSem (sid k) = q := by injection hx
    have h2 := congrArg Fin.val h1
    simp only [sSem] at h2
    omega
  | some (.inr k), hx =>
    have h1 : rSem (sid k) = q := by injection hx
    have h2 := congrArg Fin.val h1
    simp only [rSem] at h2
    omega
theorem lv_stage (c : Dev nD) (q : DmaSem sig) (h : q.val < 3) : lv ((c : Thread nD τ), .dma q) () = 0 := by
  unfold lv cellAt
  rw [dif_neg fun hx => stage_ne q h hx.choose hx.choose_spec]

theorem mayWait_stage (c : Dev nD) (q : DmaSem sig) (h : q.val < 3) (O : CellTallies nD τ sig Unit) (hO : O = owed₀ c ∨ O = 0) :
    (levAts L lv : sProp 𝕄) ⊢ MayWait (c : Thread nD τ) (.dma q) () O := by
  refine mayWait_of c _ O fun g u hg => ?_
  rcases hO with rfl | rfl
  · rw [lv_stage c q h]
    rcases owedB_pos hg with ⟨k, rfl⟩ | ⟨d, rfl⟩
    · exact ⟨rfl, by rw [lv_rcv]; omega⟩
    · exact ⟨rfl, by rw [lv_bar]; omega⟩
  · exact absurd hg (lt_irrefl 0)

end

end Cert.Silu

end
-- ==== Proof.Launch.lean ====
/-
The launch: every device's run from what it is dealt, and the whole program's run.
-/
module

public import proofs.«01_k».proof.Proof.Fund
public import proofs.«01_k».proof.Proof.Gen.KernelIdeal.Points
public import Idealize.ShloMosaic.Lib.Pipeline.CollectiveSegs
public import proofs.«01_k».proof.Proof.Gen.KernelIdeal.Frame

@[expose] public section

set_option maxRecDepth 16384
set_option backward.proofsInPublic true

noncomputable section

namespace Cert.Silu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (ρ : Dev nD → PrngReg)

/-- The operands of a device. -/
def opA (c : Dev nD) : Vec F S1024x512 .f32 := iblk m c 0 t0_0
def opB (c : Dev nD) : Vec F S512x1024 .f32 := iblk m c 1 t0_0
/-- The result of a device. -/
def outAt (c : Dev nD) : Vec F S1024x1024 .bf16 := ofBlks (outB (opA m) (opB m) c)

/-! ## The state around the body -/

/-- The buffers of the kernel's own. -/
def scr (c : Dev nD) : sProp 𝕄 :=
  iprop((all2 (fun g => anyOf (F := F) c (cM g)) ∗ all2 (fun h => some' (F := F) c (m1M h)) ∗ all2 (fun h => some' (F := F) c (m2M h)))
    ∗ anyOf (F := F) c wM ∗ anyOf (F := F) c zM)
/-- The cells, tokens and credit a device starts with. -/
def start (c : Dev nD) : sProp 𝕄 :=
  iprop((∃ K, recs (opA m) (opB m) K)
    ∗ (bigSep Finset.univ fun s : Fin 5 => dutyTok ER (barC (peer s c)) 0 (opp s))
    ∗ (atPos ER (barC c) 0 ∅ 0 ∗ cred (tallyAt (barC c) () 5))
    ∗ ((bigSep Finset.univ fun k : Cp => wt (F := F) k c) ∗ bigSep Finset.univ fun k : Cp => tok (F := F) k c))
def Φ₀ (c : Dev nD) : sProp 𝕄 := iprop(start m c ∗ scr (F := F) c)
def Φ₁ (c : Dev nD) : sProp 𝕄 := iprop((semVal (barC c) 0 ∗ bigSep Finset.univ fun k : Cp => gone (F := F) k c) ∗ scr (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => opA m c
    | ⟨1, _⟩ => opB m c
    | ⟨2, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-- What the two operands' buffers hold when the body begins. -/
theorem before_A (c : Dev nD) (d) : (dats m ρ 0 c).before (0 : Fin 3) t0_0 d = opA m c := by
  unfold Pipeline.Dat.before; rw [if_pos (fetch0_0 t0_0)]; rfl
theorem before_B (c : Dev nD) (d) : (dats m ρ 0 c).before (1 : Fin 3) t0_0 d = opB m c := by
  unfold Pipeline.Dat.before; rw [if_pos (fetch0_1 t0_0)]; rfl

/-! ## The body -/

def bodyPre (c : Dev nD) : sProp 𝕄 :=
  iprop(Φ₀ m c ∗ (dats m ρ 0 c).owesAt () t0_0.castSucc
    ∗ (∃ d, has c aM ((dats m ρ 0 c).before (0 : Fin 3) t0_0 d))
    ∗ (∃ d, has c bM ((dats m ρ 0 c).before (1 : Fin 3) t0_0 d))
    ∗ (∃ d, has c oM ((dats m ρ 0 c).before (2 : Fin 3) t0_0 d)))
def bodyPost (c : Dev nD) : sProp 𝕄 :=
  iprop(Φ₁ c ∗ (dats m ρ 0 c).owesAt () t0_0.succ ∗ has c aM (opA m c) ∗ has c bM (opB m c) ∗ has c oM (outAt m c))

theorem pre_start (c : Dev nD) : bodyPre m ρ c ⊢ iprop(∃ K, startOf (opA m) (opB m) K c) := by
  unfold bodyPre Φ₀ start scr Pipeline.Dat.owesAt Pipeline.owesWithin startOf anyOf
  iintro ⟨⟨⟨⟨%K, HR⟩, Ht, Hb, Hw⟩, Hm, Hx⟩, ⟨%W, %hW, HO⟩, ⟨%d0, HA⟩, ⟨%d1, HB⟩, ⟨%d2, HC⟩⟩
  iexists K
  isplitl [HR HO]
  · isplitl [HR]; · iexact HR
    iexists W; iexact HO
  isplitl [Ht]; · iexact Ht
  isplitl [Hb]; · iexact Hb
  isplitl [Hw]; · iexact Hw
  isplitl [HA HB]
  · isplitl [HA]
    · rw [← before_A m ρ c d0]; iexact HA
    · rw [← before_B m ρ c d1]; iexact HB
  isplitl [HC Hm]
  · isplitl [HC]
    · iexists _; iexact HC
    · iexact Hm
  iexact Hx

theorem stop_post (c : Dev nD) : stopOf (opA m) (opB m) c ⊢ bodyPost m ρ c := by
  unfold bodyPost Φ₁ scr Pipeline.Dat.owesAt Pipeline.owesWithin stopOf
  iintro ⟨⟨%W, HO⟩, Hb, Hg, ⟨HA, HB⟩, HC, Hm, Hx⟩
  isplitl [Hb Hg Hm Hx]
  · isplitl [Hb Hg]
    · isplitl [Hb] <;> iassumption
    · isplitl [Hm] <;> iassumption
  isplitl [HO]
  · iexists W
    isplitr; · ipureintro; exact fun _ _ => Or.inl trivial
    iexact HO
  isplitl [HA]; · iexact HA
  isplitl [HB]; · iexact HB
  iexact HC

theorem run_body [∀ e, Nonempty (Elt F e)] (c : Dev nD) :
    bodyPre m ρ c ⊢ wp frame (wpE (defs₀ (F := F)) 𝒱₀ (c : Thread nD τ) none) Set.univ (bodyProg (F := F)) (fun _ => bodyPost m ρ c) := by
  rw [body_eq, wp_deviceId]
  have hend : bodyPost m ρ c ⊢ wp frame (wpE (defs₀ (F := F)) 𝒱₀ (c : Thread nD τ) none) Set.univ (seqL ([] : List (PE F))) (fun _ => bodyPost m ρ c) := by
    rw [seqL, wp_ret]
    exact fupd_intro
  have hw := fun K => walk (opA m) (opB m) K c [] (fun _ => bodyPost m ρ c)
  simp only [List.append_nil] at hw
  iintro H
  ihave H := (pre_start m ρ c) $$ H
  icases H with ⟨%K, H⟩
  iapply (hw K) $$ H
  iintro H
  iapply hend
  iapply (stop_post m ρ c)
  iexact H

set_option maxRecDepth 16384 in
/-- The staging's obligation on the body. -/
theorem body_obligation [∀ e, Nonempty (Elt F e)] (c : Dev nD) : Pipeline.BodyObligation (dats (F := F) m ρ 0 c) (defs₀ (F := F)) 𝒱₀ () Set.univ := fun t => by
  rw [fin_N0 t]
  have hW := fun Φ : Fin cfg0.W → sProp 𝕄 => bigSep_W0 Φ
  rw [hW, hW]
  exact run_body m ρ c

/-! ## The side conditions of the launch -/

theorem ownFacts : Pipeline.OwnSemFacts cfg0.spec osem where
  isScoped := by decide +kernel
  inj _ _ h := Option.some.inj (csem_inj h)
  disj x w s := stage_ne _ (by revert s; revert w; decide) _

theorem share_eq (c : Dev nD) (w : Fin cfg0.W) : (dats m ρ 0 c).share w = fullShare := by unfold Pipeline.Dat.share; split <;> rfl

/-- The kernel's own buffers, as the launch names them. -/
theorem whole_any (c : Dev nD) (b : Ref sig .tc) :
    iprop(∃ f : Buf (Elt F) ((c : Thread nD τ).loc b), ((c : Thread nD τ).loc b) ↦{fullShare} f)
    = (iprop(∃ X, owns (Ix := Unit) (Name := ℕ) (U := UU) (Lvl := ℕ) (c : Thread nD τ) (Memref.whole b) fullShare X) : sProp 𝕄) := by
  exact congrArg _ (funext fun f => (owns_whole _ _ _ _).symm)
theorem rest_eq (c : Dev nD) : (Pipeline.scopedRest cfg0.spec c : sProp 𝕄)
    = iprop(anyOf (F := F) c wM ∗ anyOf (F := F) c zM ∗ anyOf (F := F) c (cM 0) ∗ anyOf (F := F) c (cM 1)
      ∗ some' (F := F) c (m1M 0) ∗ some' (F := F) c (m2M 0) ∗ some' (F := F) c (m1M 1) ∗ some' (F := F) c (m2M 1)) := by
  refine (scopedRest0_eq c).trans ?_
  simp only [whole_any]
  rfl
theorem rest_scr (c : Dev nD) : (Pipeline.scopedRest cfg0.spec c : sProp 𝕄) ⊢ scr (F := F) c := by
  rw [rest_eq]; unfold scr
  iintro ⟨H0, H1, H2, H3, H4, H5, H6, H7⟩
  isplitl [H2 H3 H4 H5 H6 H7]
  · isplitl [H2 H3]
    · isplitl [H2] <;> iassumption
    isplitl [H4 H6]
    · isplitl [H4] <;> iassumption
    isplitl [H5] <;> iassumption
  isplitl [H0] <;> iassumption
theorem scr_rest (c : Dev nD) : scr (F := F) c ⊢ (Pipeline.scopedRest cfg0.spec c : sProp 𝕄) := by
  rw [rest_eq]; unfold scr
  iintro ⟨⟨⟨H2, H3⟩, ⟨H4, H6⟩, H5, H7⟩, H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem wts_intro (c : Dev nD) :
    iprop((bigSep Finset.univ fun x : Cp ⊕ Cp => atPos ER (cell c (some x)) 0 ∅ 0) ∗ bigSep Finset.univ fun k : Cp => cred (tallyAt (rcvC c k) () N))
      ⊢ (bigSep Finset.univ fun k : Cp => wt k c : sProp 𝕄) := by
  unfold wt
  rw [bigSep_cps, bigSep_sep', bigSep_sep']
  iintro ⟨⟨H1, H2⟩, H3⟩
  isplitl [H1]; · iexact H1
  isplitl [H2]; · iexact H2
  iexact H3

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ gDone (opA m) (opB m) c)
      ⊢ (|={Set.univ}=> iprop(start m c ∗ emp) : sProp 𝕄) := by
  have hcl : (bigSep Finset.univ fun x : Cl => (atPos ER (cell c x) 0 ∅ 0 : sProp 𝕄))
      ⊢ iprop(atPos ER (barC c) 0 ∅ 0 ∗ bigSep Finset.univ fun x : Cp ⊕ Cp => atPos ER (cell c (some x)) 0 ∅ 0) := Entails.of_eq (bigSep_cl _)
  unfold gDone linear payToks
  iintro ⟨-, Hlev, Hcr, -, ⟨%K, HR, Hat, Htb, Htk⟩⟩
  ihave Hc := (creds (F := F) c) $$ Hcr
  icases Hc with ⟨H1, HN⟩
  ihave Hat := hcl $$ Hat
  icases Hat with ⟨Hab, Hac⟩
  ihave Hw := (wts_intro (F := F) c) $$ [Hac HN]
  · isplitl [Hac] <;> iassumption
  imodintro
  unfold start recs recs'
  icases HR with ⟨HR1, HR2⟩
  isplitl
  · isplitl [HR1 HR2 Hlev]
    · iexists K
      isplitl [HR1]; · iexact HR1
      isplitl [HR2]; · iexact HR2
      iexact Hlev
    isplitl [Htb]; · iexact Htb
    isplitl [Hab H1]
    · isplitl [Hab] <;> iassumption
    isplitl [Hw]; · iexact Hw
    iexact Htk
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (rest_scr (F := F) c)
  iexact Hr
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_eq, unscoped_eq]
  unfold Φ₁
  iintro ⟨⟨Hb, Hg⟩, Hr⟩
  isplitl [Hb]; · iexact Hb
  isplitl [Hg]; · iexact Hg
  iapply (scr_rest (F := F) c)
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert s; revert w; decide) _ (by
      rcases t with ⟨_ | _, ht⟩
      · exact Or.inl rfl
      · exact Or.inr rfl)

/-! ## The arrays are one block each -/

/-- A device's operands are its two argument arrays. -/
theorem opA_eq (c : Dev nD) : opA m c = m ((c : Thread nD τ).loc main_arg0) := by
  have hr := fun f => Memref.read_access_unit_zero (Elt F) main_arg0
    (off := fun a => (win0_0.index (0 : Fin 1)) a * main_arg0.ty.shape.size a) (funext fun a => by fin_cases a <;> decide) (fun a => by fin_cases a <;> decide) f
  have ho : opA m c = (win0_0.blk (0 : Fin 1)).view.read (Elt F) (m ((c : Thread nD τ).loc main_arg0)) := rfl
  rw [hr] at ho
  exact ho
theorem opB_eq (c : Dev nD) : opB m c = m ((c : Thread nD τ).loc main_arg1) := by
  have hr := fun f => Memref.read_access_unit_zero (Elt F) main_arg1
    (off := fun a => (win0_1.index (0 : Fin 1)) a * main_arg1.ty.shape.size a) (funext fun a => by fin_cases a <;> decide) (fun a => by fin_cases a <;> decide) f
  have ho : opB m c = (win0_1.blk (0 : Fin 1)).view.read (Elt F) (m ((c : Thread nD τ).loc main_arg1)) := rfl
  rw [hr] at ho
  exact ho

/-- The result array ends with what the body left. -/
theorem arr_out (c : Dev nD) : (dats m ρ 0 c).arrAt (2 : Fin 3) cfg0.N = outAt m c := by
  have hr := fun f => Memref.read_access_unit_zero (Elt F) main_v1
    (off := fun a => (win0_2.index (0 : Fin 1)) a * main_v1.ty.shape.size a) (funext fun a => by fin_cases a <;> decide) (fun a => by fin_cases a <;> decide) f
  have ho : (win0_2.blk (0 : Fin 1)).view.read (Elt F) ((dats m ρ 0 c).arrAt (2 : Fin 3) cfg0.N) = outAt m c := by
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  rw [hr] at ho
  exact ho

/-! ## The run -/

/-- What every array of the staging ends with. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 16384 in
/-- From any memory with zero counters, every fair run of the program ends with the staged arrays at their computed
    contents and every counter at zero. -/
theorem run_all [∀ e, Nonempty (Elt F e)] : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := gDeal (opA m) (opB m)) (G' := gDone (opA m) (opB m)) (u₀ := u₀)
    (hu₀ := by
      unfold u₀
      iintro Hu
      ihave H := (ownU_pair _ _) $$ Hu
      icases H with ⟨HP, HX⟩
      imod (fund_silu (opA m) (opB m)) $$ HX with HG
      imodintro
      isplitl [HP] <;> iassumption)
    (hglob := glob (opA m) (opB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- From any memory with zero counters, every fair run of the program ends with the arguments unchanged, every device's
    result at the computed blocks and every counter at zero. -/
theorem run_main [∀ e, Nonempty (Elt F e)] : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = outAt m c) ∧ r.2.sem = fun _ => 0) :=
  (θ_run defs _ _).mono (fun r h => ⟨fun c => ⟨(h.1 c 0).trans ((dats m ρ 0 c).arrAt_in 0 rfl _), (h.1 c 1).trans ((dats m ρ 0 c).arrAt_in 1 rfl _),
    (h.1 c 2).trans (arr_out m ρ c)⟩, h.2⟩) (run_all m ρ)

end

end Cert.Silu

end
-- ==== Proof.Frames.lean ====
/-
Every run of the kernel, of its idealization and of the reference ends, with the arguments unchanged and every
semaphore at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.Lib.Pipeline.Regions

@[expose] public section

set_option maxRecDepth 16384

noncomputable section

namespace Cert.Silu

open Idealize.ShloMosaic Idealize.SL.Sem

/-- Every run of the idealization's text over the floats `F` ends so. -/
def Quiet (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
theorem quiet {F : FTy → Type} [FloatOps F] [∀ e, Nonempty (Elt F e)] : Quiet F := fun m ρ _ =>
  (θ_run Cert.KernelIdeal.defs _ _).mono (fun _ h => ⟨fun c => ⟨(h.1 c).1, (h.1 c).2.1⟩, h.2⟩) (run_main (F := F) m ρ)

/-- The kernel as written has the idealization's text, read at machine floats. -/
theorem kernel_same : Cert.quiescent_Kernel = Quiet Bits := by chain_rfl
theorem frame_kernel : Cert.quiescent_Kernel := kernel_same.mpr quiet

/-- The idealization. -/
theorem frame_ideal : Cert.quiescent_KernelIdeal := quiet (F := Ideal)

/-- The reference, which has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- No operation was replaced between the two. -/
theorem preserved : Cert.preserves_Kernel_KernelIdeal := trivial

end Cert.Silu

end
-- ==== Proof.Sum.lean ====
/-
At the ideal values: what a block's sum over all devices is, whichever way it was gathered.
-/
module

public import proofs.«01_k».proof.Proof.Values
public import Idealize.ShloMosaic.Lib.Pointwise

@[expose] public section

set_option backward.proofsInPublic true
set_option maxRecDepth 16384

noncomputable section

namespace Cert.Silu

open Cert.KernelIdeal Cert.KernelIdeal.Gen
open Idealize.ShloMosaic Idealize.ShloMosaic.TcCoe

/-- A device and the three before it on the ring of a half. -/
def ring (h : Fin 2) (c : Dev nD) : List (Dev nD) := [c, left h c, left h (left h c), left h (left h (left h c))]
/-- The devices a block is summed over: the ring, the near partner's, and the two rings of the far partner. -/
def visit (h : Fin 2) (c : Dev nD) : List (Dev nD) :=
  (ring h c ++ ring h (near h c)) ++ (ring h (far h c) ++ ring h (near h (far h c)))

/-- No device is visited twice, and none is missed. -/
theorem visit_nodup : ∀ (h : Fin 2) (c : Dev nD), (visit h c).Nodup := by decide +kernel
theorem visit_all : ∀ (h : Fin 2) (c d : Dev nD), d ∈ visit h c := by decide +kernel

/-- The devices visited are all the devices, each once. -/
theorem sum_visit {M : Type} [AddCommMonoid M] (f : Dev nD → M) (h : Fin 2) (c : Dev nD) : ((visit h c).map f).sum = ∑ d, f d := by
  rw [← List.sum_toFinset f (visit_nodup h c)]
  exact Finset.sum_congr (Finset.eq_univ_iff_forall.mpr fun d => List.mem_toFinset.mpr (visit_all h c d)) fun _ _ => rfl

/-- Three steps right are one step left. -/
theorem right3 : ∀ (h : Fin 2) (c : Dev nD), right h (right h (right h c)) = left h c := by decide +kernel
theorem right2 : ∀ (h : Fin 2) (c : Dev nD), right h (right h c) = left h (left h c) := by decide +kernel
theorem right1 : ∀ (h : Fin 2) (c : Dev nD), right h c = left h (left h (left h c)) := by decide +kernel

/-- Adding two blocks. -/
theorem pay35_apply (v w : vB Ideal) (i : S64x1024.Idx) : k0_pay35 v w i = (v i + w i : EReal) := by
  unfold k0_pay35
  rw [shapeCast_self]
  rfl

variable (A : Dev nD → Vec Ideal S1024x512 .f32) (B : Dev nD → Vec Ideal S512x1024 .f32)

/-- A block's chunk seen from the device to the left. -/
theorem blk_left (h : Fin 2) (j u : Fin 4) (w : Fin 2) (c : Dev nD) (e : 3 + j = u) : blkAt h j w (left h c) = blkAt h u w c := by
  unfold blkAt
  rw [pos_left, add_assoc, e]
theorem blk_right (h : Fin 2) (j u : Fin 4) (w : Fin 2) (c : Dev nD) (e : 1 + j = u) : blkAt h j w (right h c) = blkAt h u w c := by
  unfold blkAt
  rw [pos_right, add_assoc, e]

/-- A partial product at an index, as an extended real. -/
abbrev term (b : Blk) (i : S64x1024.Idx) (d : Dev nD) : EReal := part A B d b i

/-- The sum gathered going right is the sum over the ring. -/
theorem accR_apply (h : Fin 2) (c : Dev nD) (i : S64x1024.Idx) :
    accR A B h c 3 i = ((ring h c).map (term A B (blkAt h 1 0 c) i)).sum := by
  simp only [accR, pay35_apply, jR, ring, List.map_cons, List.map_nil, List.sum_cons, List.sum_nil, add_zero, zero_add, term]
  rw [blk_left h 2 1 0 c rfl, blk_left h 3 2 0 (left h c) rfl, blk_left h 2 1 0 c rfl,
    blk_left h 0 3 0 (left h (left h c)) rfl, blk_left h 3 2 0 (left h c) rfl, blk_left h 2 1 0 c rfl]

/-- The sum gathered going left is the sum over the ring. -/
theorem accL_apply (h : Fin 2) (c : Dev nD) (i : S64x1024.Idx) :
    accL A B h c 3 i = ((ring h c).map (term A B (blkAt h 1 1 c) i)).sum := by
  simp only [accL, pay35_apply, jL, ring, List.map_cons, List.map_nil, List.sum_cons, List.sum_nil, add_zero, zero_add, term]
  rw [blk_right h 0 1 1 c rfl, blk_right h 3 0 1 (right h c) rfl, blk_right h 0 1 1 c rfl,
    blk_right h 2 3 1 (right h (right h c)) rfl, blk_right h 3 0 1 (right h c) rfl, blk_right h 0 1 1 c rfl,
    right3, right2, right1]
  ac_rfl

/-- Either block of a chunk, summed round the ring. -/
theorem ringSum_apply (h : Fin 2) (c : Dev nD) (u : Fin 2) (i : S64x1024.Idx) :
    ringSum A B h c u i = ((ring h c).map (term A B (blkAt h 1 u c) i)).sum := by
  match u with
  | 0 => exact accR_apply A B h c i
  | 1 => exact accL_apply A B h c i

/-- A partner across the rings holds the same chunk. -/
theorem blk_near (h : Fin 2) (u : Fin 2) (c : Dev nD) : blkAt h 1 u (near h c) = blkAt h 1 u c := by
  unfold blkAt; rw [pos_near]
theorem blk_far (h : Fin 2) (u : Fin 2) (c : Dev nD) : blkAt h 1 u (far h c) = blkAt h 1 u c := by
  unfold blkAt; rw [pos_far]

/-- After the exchange with the far partner a device holds the block's sum over all devices. -/
theorem farSum_apply (h : Fin 2) (c : Dev nD) (i : S64x1024.Idx) :
    farSum A B h c i = ∑ d, term A B (blkAt h 1 (bit h c) c) i d := by
  rw [← sum_visit _ h c]
  simp only [farSum, nearSum, pay35_apply, ringSum_apply, bit_far, blk_near, blk_far, visit, List.map_append, List.sum_append]

/-- The sum of a block over all devices. -/
def total (b : Blk) : vB Ideal := fun i => (∑ d, term A B b i d : EReal)

/-- The block a device finishes is the function of that sum. -/
theorem res_eq (h : Fin 2) (c : Dev nD) : res A B h c = k0_pay39 (total A B (blkAt h 1 (bit h c) c)) :=
  congrArg k0_pay39 (funext fun i => farSum_apply A B h c i)

/-- Of two bits, the one that is not the second is its opposite. -/
theorem not_bit : ∀ (u b : Fin 2), u ≠ b → 1 - b = u := by decide

/-- Both blocks of a device's own chunk are the function of their sums. -/
theorem own_total (h : Fin 2) (c : Dev nD) (u : Fin 2) : own A B h c u = k0_pay39 (total A B (blkAt h 1 u c)) := by
  unfold own
  by_cases e : u = bit h c
  · rw [if_pos e, res_eq, ← e]
  · rw [if_neg e, res_eq, bit_near, blk_near, not_bit u (bit h c) e]

/-- A bit that is not zero is one. -/
theorem one_of : ∀ u : Fin 2, ¬u = 0 → u = 1 := by decide

/-- Every device's result of a block is that of the block's sum over all devices. -/
theorem outJ_eq (h : Fin 2) (c : Dev nD) (j : Fin 4) (u : Fin 2) : outJ A B h c j u = k0_pay39 (total A B (blkAt h j u c)) := by
  have go : ∀ d, blkAt h 1 u d = blkAt h j u c → own A B h d u = k0_pay39 (total A B (blkAt h j u c)) := fun d e => by rw [own_total, e]
  unfold outJ
  by_cases hu : u = 0
  · subst hu
    rw [if_pos rfl]
    match j with
    | 1 => exact go _ rfl
    | 0 => exact go _ (blk_left h 1 0 0 c rfl)
    | 3 => exact go _ ((blk_left h 1 0 0 _ rfl).trans (blk_left h 0 3 0 c rfl))
    | 2 => exact go _ ((blk_left h 1 0 0 _ rfl).trans ((blk_left h 0 3 0 _ rfl).trans (blk_left h 3 2 0 c rfl)))
  · have hu : u = 1 := one_of u hu
    subst hu
    rw [if_neg (by decide)]
    match j with
    | 1 => exact go _ rfl
    | 2 => exact go _ (blk_right h 1 2 1 c rfl)
    | 3 => exact go _ ((blk_right h 1 2 1 _ rfl).trans (blk_right h 2 3 1 c rfl))
    | 0 => exact go _ ((blk_right h 1 2 1 _ rfl).trans ((blk_right h 2 3 1 _ rfl).trans (blk_right h 3 0 1 c rfl)))

/-- Going round by a difference arrives. -/
theorem back : ∀ p q : Fin 4, p + (q - p) = q := by decide

/-- Every block of the result, on any device, is the function of the block's sum over all devices. -/
theorem outB_eq (c : Dev nD) (b : Blk) : outB A B c b = k0_pay39 (total A B b) := by
  obtain ⟨h, q, u⟩ := b
  show outJ A B h c (q - pos h c) u = _
  rw [outJ_eq]
  show k0_pay39 (total A B (h, pos h c + (q - pos h c), u)) = _
  rw [back]

end Cert.Silu

end
-- ==== Proof.Product.lean ====
/-
At the ideal values: a block's sum over all devices is the block of the product of the whole operands, and the result is
the reference's function of it.
-/
module

public import proofs.«01_k».proof.Proof.Sum
public import Idealize.ShloMosaic.Lib.Pointwise

@[expose] public section

set_option backward.proofsInPublic true
set_option maxRecDepth 16384

noncomputable section

namespace Cert.Silu

open Cert.KernelIdeal Cert.KernelIdeal.Gen
open Idealize.ShloMosaic Idealize.ShloMosaic.TcCoe

/-! ## The partial products -/

/-- The row of the result that row `r` of a block is. -/
def rowOf (b : Blk) (r : Fin 64) : Fin 1024 :=
  ⟨512 * b.1.val + 128 * b.2.1.val + 64 * b.2.2.val + r.val, by
    have := b.1.isLt; have := b.2.1.isLt; have := b.2.2.isLt; have := r.isLt; omega⟩

/-- A row of a block of the first operand. -/
theorem rowA (b : Blk) (r : Fin 64) (k : Fin 512) : (blkRectA b).emb (ix2 r k) = ix2 (rowOf b r) k := by
  have h0 : ((blkRectA b).emb (ix2 r k) 0).val = rowOff b 0 + 1 * r.val := Rect.emb_apply _ _ _
  have h1 : ((blkRectA b).emb (ix2 r k) 1).val = rowOff b 1 + 1 * k.val := Rect.emb_apply _ _ _
  refine funext fun a => Fin.ext ?_
  match a with
  | 0 => rw [h0]; simp [rowOff, rowOf]
  | 1 => rw [h1]; simp [rowOff]

/-- A partial product is the sum over the device's 512 columns. -/
theorem part_apply (A : Dev nD → Vec Ideal S1024x512 .f32) (B : Dev nD → Vec Ideal S512x1024 .f32) (d : Dev nD) (b : Blk)
    (r : Fin 64) (q : Fin 1024) :
    part A B d b (ix2 r q) = (∑ k : Fin 512, A d (ix2 (rowOf b r) k) * B d (ix2 k q) : EReal) := by
  pointwise [part, k0_pay2, k0_pay1]
  exact Finset.sum_congr rfl fun k _ => by rw [rowA]

/-! ## The product of the whole operands -/

/-- A sum over 8192 terms, in sixteen runs of 512. -/
theorem sum_runs {M : Type} [AddCommMonoid M] (f : Fin 8192 → M) :
    ∑ k, f k = ∑ d : Fin 16, ∑ k : Fin 512, f ⟨d.val * 512 + k.val, by omega⟩ := by
  rw [← Equiv.sum_comp (finProdFinEquiv (m := 16) (n := 512)) f, Fintype.sum_prod_type]
  exact Finset.sum_congr rfl fun d _ => Finset.sum_congr rfl fun k _ => congrArg f (Fin.ext (by
    simp only [finProdFinEquiv_apply_val]; omega))

variable (X : Vec Ideal ⟨2, ![1024, 8192]⟩ .f32) (Y : Vec Ideal ⟨2, ![8192, 1024]⟩ .f32)

/-- The whole operands cut over the devices. -/
abbrev cutX (c : Dev nD) : Vec Ideal S1024x512 .f32 := Layout.block ⟨2, ![1024, 512]⟩ ⟨2, ![1024, 8192]⟩ 1 16 c X
abbrev cutY (c : Dev nD) : Vec Ideal S512x1024 .f32 := Layout.block ⟨2, ![512, 1024]⟩ ⟨2, ![8192, 1024]⟩ 0 16 c Y

/-- Where an entry of a device's share is in the whole operand. -/
theorem cutX_apply (c : Fin 16) (r : Fin 1024) (k : Fin 512) : cutX X c (ix2 r k) = X (ix2 r ⟨c.val * 512 + k.val, by omega⟩) :=
  congrArg X (funext fun a => Fin.ext (match a with | 0 => rfl | 1 => rfl))
theorem cutY_apply (c : Fin 16) (k : Fin 512) (q : Fin 1024) : cutY Y c (ix2 k q) = Y (ix2 ⟨c.val * 512 + k.val, by omega⟩ q) :=
  congrArg Y (funext fun a => Fin.ext (match a with | 0 => rfl | 1 => rfl))

/-- An entry of the product of the whole operands. -/
def prod (r q : Fin 1024) : EReal := ∑ k : Fin 8192, X (ix2 r k) * Y (ix2 k q)

/-- A block's sum over all devices is the block of the product. -/
theorem total_eq (b : Blk) (r : Fin 64) (q : Fin 1024) : total (cutX X) (cutY Y) b (ix2 r q) = prod X Y (rowOf b r) q := by
  unfold prod
  rw [sum_runs]
  refine Finset.sum_congr rfl fun d _ => (part_apply _ _ d b r q).trans (Finset.sum_congr rfl fun k _ => ?_)
  rw [cutX_apply, cutY_apply]

/-! ## The function of it -/

/-- The reference's function: `z / (1 + exp (-z))`. -/
def silu1 (z : EReal) : EReal := Ideal.div z (1 + Ideal.exp (-z))

/-- The kernel's is the same: it multiplies by the reciprocal. -/
theorem silu1_mul (z : EReal) : z * Ideal.div 1 (1 + Ideal.exp (0 - z)) = silu1 z := by
  unfold silu1
  rw [zero_sub]
  have hne : (1 : EReal) + Ideal.exp (-z) ≠ 0 := by
    refine ne_of_gt (lt_of_lt_of_le zero_lt_one ?_)
    have hp : (0 : EReal) ≤ Ideal.exp (-z) := by
      induction -z with
      | bot => simp
      | top => simp
      | coe r => simpa using (Real.exp_pos r).le
    exact le_add_of_nonneg_right hp
  unfold Ideal.div
  rw [if_neg hne, if_neg hne, one_mul]

/-- The kernel's function of a block, at an index. -/
theorem pay39_apply (v : vB Ideal) (i : S64x1024.Idx) : k0_pay39 v i = silu1 (v i) := by
  rw [← silu1_mul]
  pointwise [k0_pay39]

/-- A row found in its block is the row. -/
theorem row_back (i : S1024x1024.Idx) : rowOf (blkOf i) (inBlk i 0) = i 0 := by
  have h := blkRect_emb0 (blkOf i) (inBlk i)
  rw [emb_inBlk] at h
  exact Fin.ext h.symm

/-- Every device's result is the function of the product, at every index. -/
theorem out_apply (c : Dev nD) (i : S1024x1024.Idx) :
    ofBlks (outB (cutX X) (cutY Y) c) i = silu1 (prod X Y (i 0) (i 1)) := by
  show outB (cutX X) (cutY Y) c (blkOf i) (inBlk i) = _
  rw [outB_eq, pay39_apply]
  have h : total (cutX X) (cutY Y) (blkOf i) (ix2 (inBlk i 0) (inBlk i 1)) = prod X Y (rowOf (blkOf i) (inBlk i 0)) (inBlk i 1) :=
    total_eq X Y (blkOf i) (inBlk i 0) (inBlk i 1)
  exact congrArg silu1 ((congrArg _ (eq_ix2 (inBlk i))).trans (h.trans (by rw [row_back]; rfl)))

end Cert.Silu

end
-- ==== Proof.Algebraic.lean ====
/-
At the ideal values the kernel leaves on every device what the reference computes of the whole operands.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Frames
public import proofs.«01_k».proof.Proof.Product
public import Idealize.ShloMosaic.Lib.Pipeline.Regions

@[expose] public section

set_option maxRecDepth 16384

noncomputable section

namespace Cert.Silu

open Idealize.ShloMosaic Idealize.SL.Sem

/-- The result as a function of the whole operands. -/
def whole (X : Vec Ideal ⟨2, ![1024, 8192]⟩ .f32) (Y : Vec Ideal ⟨2, ![8192, 1024]⟩ .f32) : Vec Ideal ⟨2, ![1024, 1024]⟩ .bf16 :=
  fun i => silu1 (prod X Y (i 0) (i 1))

/-- What the reference computes is that function. -/
theorem reference_apply (X : FVec Ideal ⟨2, ![1024, 8192]⟩ .f32) (Y : FVec Ideal ⟨2, ![8192, 1024]⟩ .f32) :
    (truncf .bf16 (Host.divf (Host.dotGeneral Cert.ReferenceIdeal.dot_S1024x8192_S8192x1024_S1024x1024_1_0_0_1_n_n none X Y)
      (addf (broadcastInDim Cert.ReferenceIdeal.S1024x1024 ![] Cert.ReferenceIdeal.Gen.bcast_S_S1024x1024 (constant Cert.ReferenceIdeal.S_ .f32 0x3F800000#32))
        (Host.exp (Host.negf (Host.dotGeneral Cert.ReferenceIdeal.dot_S1024x8192_S8192x1024_S1024x1024_1_0_0_1_n_n none X Y)))))
      Cert.ReferenceIdeal.Gen.bitsLt_bf16_f32 : FVec Ideal Cert.ReferenceIdeal.S1024x1024 .bf16) = whole X Y := by
  funext i
  pointwise [whole, silu1, prod]

/-- From the blocks of the same operands the kernel ends with the reference's result on every device. -/
theorem equal : Cert.algebraic_KernelIdeal_ReferenceIdeal := by
  intro m ρ m' ρ' _ hagree
  let X : Vec Ideal ⟨2, ![1024, 8192]⟩ .f32 := m' (((0 : Dev Cert.ReferenceIdeal.nD).tc : Thread Cert.ReferenceIdeal.nD Cert.ReferenceIdeal.τ).loc Cert.ReferenceIdeal.main_arg0)
  let Y : Vec Ideal ⟨2, ![8192, 1024]⟩ .f32 := m' (((0 : Dev Cert.ReferenceIdeal.nD).tc : Thread Cert.ReferenceIdeal.nD Cert.ReferenceIdeal.τ).loc Cert.ReferenceIdeal.main_arg1)
  refine ⟨whole X Y, ?_, ?_⟩
  · refine (θ_run Cert.KernelIdeal.defs _ _).mono (fun r h c => ⟨(h.1 c).2.2.trans ?_, (h.1 c).1, (h.1 c).2.1⟩) (run_main (F := Ideal) m ρ)
    have ha : opA m = cutX X := funext fun d => (opA_eq m d).trans (hagree d).1
    have hb : opB m = cutY Y := funext fun d => (opB_eq m d).trans (hagree d).2
    show ofBlks (outB (opA m) (opB m) c) = _
    rw [ha, hb]
    exact funext fun i => out_apply _ _ c i
  · exact (θ_run Cert.ReferenceIdeal.defs _ _).mono (fun r h => ⟨(h 0).1.trans (reference_apply _ _), (h 0).2.1, (h 0).2.2⟩)
      (Cert.ReferenceIdeal.Value.run (F := Ideal) m' ρ')

end Cert.Silu

end
-- ==== Proof.lean ====
/- The claims: the runs of the two forms of the kernel and of the reference, that nothing was replaced, and that the kernel computes what the
   reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

/-- Everything that is claimed. -/
theorem claim : Cert.Claim := ⟨Cert.Kernel.Gen.facts, Cert.KernelIdeal.Gen.facts, Cert.ReferenceIdeal.Gen.facts,
  Cert.Silu.frame_kernel, Cert.Silu.frame_ideal, Cert.Silu.frame_reference, Cert.Silu.preserved, Cert.Silu.equal⟩

end Cert.Proof

end
